-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x128x256 : Shape := ⟨4, ![1, 128, 128, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S16384x6 : Shape := ⟨2, ![16384, 6]⟩
abbrev S49152x4 : Shape := ⟨2, ![49152, 4]⟩
abbrev S1x16x128x256 : Shape := ⟨4, ![1, 16, 128, 256]⟩
abbrev S2048x6 : Shape := ⟨2, ![2048, 6]⟩
abbrev S6144x4 : Shape := ⟨2, ![6144, 4]⟩
abbrev S130x128x768 : Shape := ⟨3, ![130, 128, 768]⟩
abbrev S3x768x512 : Shape := ⟨3, ![3, 768, 512]⟩
abbrev S512x18 : Shape := ⟨2, ![512, 18]⟩
abbrev S1x128x768 : Shape := ⟨3, ![1, 128, 768]⟩
abbrev S130x1x256 : Shape := ⟨3, ![130, 1, 256]⟩
abbrev S130x2x256 : Shape := ⟨3, ![130, 2, 256]⟩
abbrev S512x6 : Shape := ⟨2, ![512, 6]⟩
abbrev S512x12 : Shape := ⟨2, ![512, 12]⟩
abbrev S16x128x256 : Shape := ⟨3, ![16, 128, 256]⟩
abbrev S16x127x256 : Shape := ⟨3, ![16, 127, 256]⟩
abbrev S2048x512 : Shape := ⟨2, ![2048, 512]⟩
abbrev S16x128x768 : Shape := ⟨3, ![16, 128, 768]⟩
abbrev S2048x768 : Shape := ⟨2, ![2048, 768]⟩
abbrev S1x768x512 : Shape := ⟨3, ![1, 768, 512]⟩
abbrev S768x512 : Shape := ⟨2, ![768, 512]⟩
abbrev S1x512 : Shape := ⟨2, ![1, 512]⟩
abbrev S2048x18 : Shape := ⟨2, ![2048, 18]⟩
abbrev S1x6 : Shape := ⟨2, ![1, 6]⟩
abbrev S2048x4 : Shape := ⟨2, ![2048, 4]⟩
abbrev S4 : Shape := ⟨1, ![4]⟩
abbrev S1x4 : Shape := ⟨2, ![1, 4]⟩

abbrev nBuf : Space → Nat
  | .hbm => 9
  | .vmem => 15
  | .smem => 0
  | _ => 0

abbrev bufTy : (tb : Table) → Fin (tcTables nBuf tb) → BufTy
  | .hbm, ⟨0, _⟩ => ⟨S1x128x128x256, .f32⟩
  | .hbm, ⟨1, _⟩ => ⟨S3x3x256x512, .f32⟩
  | .hbm, ⟨2, _⟩ => ⟨S512, .f32⟩
  | .hbm, ⟨3, _⟩ => ⟨S1x1x512x6, .f32⟩
  | .hbm, ⟨4, _⟩ => ⟨S6, .f32⟩
  | .hbm, ⟨5, _⟩ => ⟨S1x1x512x12, .f32⟩
  | .hbm, ⟨6, _⟩ => ⟨S12, .f32⟩
  | .hbm, ⟨7, _⟩ => ⟨S16384x6, .f32⟩
  | .hbm, ⟨8, _⟩ => ⟨S49152x4, .f32⟩
  | .local _ .vmem, ⟨0, _⟩ => ⟨S1x16x128x256, .f32⟩
  | .local _ .vmem, ⟨1, _⟩ => ⟨S1x16x128x256, .f32⟩
  | .local _ .vmem, ⟨2, _⟩ => ⟨S3x3x256x512, .f32⟩
  | .local _ .vmem, ⟨3, _⟩ => ⟨S1x1x512x6, .f32⟩
  | .local _ .vmem, ⟨4, _⟩ => ⟨S1x1x512x12, .f32⟩
  | .local _ .vmem, ⟨5, _⟩ => ⟨S512, .f32⟩
  | .local _ .vmem, ⟨6, _⟩ => ⟨S6, .f32⟩
  | .local _ .vmem, ⟨7, _⟩ => ⟨S12, .f32⟩
  | .local _ .vmem, ⟨8, _⟩ => ⟨S2048x6, .f32⟩
  | .local _ .vmem, ⟨9, _⟩ => ⟨S2048x6, .f32⟩
  | .local _ .vmem, ⟨10, _⟩ => ⟨S6144x4, .f32⟩
  | .local _ .vmem, ⟨11, _⟩ => ⟨S6144x4, .f32⟩
  | .local _ .vmem, ⟨12, _⟩ => ⟨S130x128x768, .bf16⟩
  | .local _ .vmem, ⟨13, _⟩ => ⟨S3x768x512, .bf16⟩
  | .local _ .vmem, ⟨14, _⟩ => ⟨S512x18, .bf16⟩
  | _, _ => ⟨S1x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c16_i32 : BitVec 32 := 16#32
  let v12 : BitVec 32 := Scalar.muli arg0 c16_i32
  let c1_i32 : BitVec 32 := 1#32
  let v13 : BitVec 32 := Scalar.addi v12 c1_i32
  let v15 : Index := Scalar.indexCast v13
  let c1 : Index := 1#32
  let c0_7 : Index := 0#32
  ![v15.toNat, 1, 0]
def k0_off2 (i : grid0.Coords) : Fin 3 → Nat :=
  let arg0 : BitVec 32 := BitVec.ofNat 32 (i 0).val
  let c16_i32 : BitVec 32 := 16#32
  let v12 : BitVec 32 := Scalar.muli arg0 c16_i32
  let c1_i32 : BitVec 32 := 1#32
  let v13 : BitVec 32 := Scalar.addi v12 c1_i32
  let v15 : Index := Scalar.indexCast v13
  let c0_7 : Index := 0#32
  ![v15.toNat, 0, 0]
def k0_off3 (i : grid0.Coords) : Fin 3 → Nat :=
  let arg0 : BitVec 32 := BitVec.ofNat 32 (i 0).val
  let c16_i32 : BitVec 32 := 16#32
  let v12 : BitVec 32 := Scalar.muli arg0 c16_i32
  let c1_i32 : BitVec 32 := 1#32
  let v13 : BitVec 32 := Scalar.addi v12 c1_i32
  let v19 : Index := Scalar.indexCast v13
  let c0_8 : Index := 0#32
  let c256 : Index := 256#32
  ![v19.toNat, 0, 256]
def k0_off4 (i : grid0.Coords) : Fin 3 → Nat :=
  let arg0 : BitVec 32 := BitVec.ofNat 32 (i 0).val
  let c16_i32 : BitVec 32 := 16#32
  let v12 : BitVec 32 := Scalar.muli arg0 c16_i32
  let c1_i32 : BitVec 32 := 1#32
  let v13 : BitVec 32 := Scalar.addi v12 c1_i32
  let v24 : Index := Scalar.indexCast v13
  let c0_9 : Index := 0#32
  let c512 : Index := 512#32
  ![v24.toNat, 0, 512]
def k0_off5 (i : grid0.Coords) : Fin 3 → Nat :=
  let arg0 : BitVec 32 := BitVec.ofNat 32 (i 0).val
  let c16_i32 : BitVec 32 := 16#32
  let v12 : BitVec 32 := Scalar.muli arg0 c16_i32
  let c1_i32 : BitVec 32 := 1#32
  let v13 : BitVec 32 := Scalar.addi v12 c1_i32
  let v24 : Index := Scalar.indexCast v13
  let c0_9 : Index := 0#32
  let c512 : Index := 512#32
  ![v24.toNat, 0, 512]
def k0_cond3 (i : grid0.Coords) : BitVec 1 :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .ne v7 c0_i32_3
  v8

def k0_off6 (i : grid0.Coords) (c0_i32_4 : BitVec 32) : Fin 3 → Nat :=
  let arg0 : BitVec 32 := BitVec.ofNat 32 (i 0).val
  let c1_i32 : BitVec 32 := 1#32
  let v9 : BitVec 32 := Scalar.subi arg0 c1_i32
  let c16_i32 : BitVec 32 := 16#32
  let v11 : BitVec 32 := Scalar.muli v9 c16_i32
  let v12 : BitVec 32 := Scalar.addi v11 c0_i32_4
  let v13 : Index := Scalar.indexCast v12
  let c0 : Index := 0#32
  let c0_5 : Index := 0#32
  ![v13.toNat, 0, 0]
def cc0_transform_0 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x512x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x6 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6144x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x128x128x256 : Shape := ⟨4, ![1, 128, 128, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S128x128x256 : Shape := ⟨3, ![128, 128, 256]⟩
abbrev S_ : Shape := ⟨0, ![]⟩
abbrev S130x130x256 : Shape := ⟨3, ![130, 130, 256]⟩
abbrev S128x128x512 : Shape := ⟨3, ![128, 128, 512]⟩
abbrev S1x1x256x512 : Shape := ⟨4, ![1, 1, 256, 512]⟩
abbrev S256x512 : Shape := ⟨2, ![256, 512]⟩
abbrev S1x1x512 : Shape := ⟨3, ![1, 1, 512]⟩
abbrev S512x6 : Shape := ⟨2, ![512, 6]⟩
abbrev S128x128x6 : Shape := ⟨3, ![128, 128, 6]⟩
abbrev S1x1x6 : Shape := ⟨3, ![1, 1, 6]⟩
abbrev S512x12 : Shape := ⟨2, ![512, 12]⟩
abbrev S128x128x12 : Shape := ⟨3, ![128, 128, 12]⟩
abbrev S1x1x12 : Shape := ⟨3, ![1, 1, 12]⟩
abbrev S16384x6 : Shape := ⟨2, ![16384, 6]⟩
abbrev S49152x4 : Shape := ⟨2, ![49152, 4]⟩

abbrev nBuf : Space → Nat
  | .hbm => 76
  | .vmem => 0
  | .smem => 0
  | _ => 0

abbrev bufTy : (tb : Table) → Fin (tcTables nBuf tb) → BufTy
  | .hbm, ⟨0, _⟩ => ⟨S1x128x128x256, .f32⟩
  | .hbm, ⟨1, _⟩ => ⟨S3x3x256x512, .f32⟩
  | .hbm, ⟨2, _⟩ => ⟨S512, .f32⟩
  | .hbm, ⟨3, _⟩ => ⟨S1x1x512x6, .f32⟩
  | .hbm, ⟨4, _⟩ => ⟨S6, .f32⟩
  | .hbm, ⟨5, _⟩ => ⟨S1x1x512x12, .f32⟩
  | .hbm, ⟨6, _⟩ => ⟨S12, .f32⟩
  | .hbm, ⟨7, _⟩ => ⟨S128x128x256, .f32⟩
  | .hbm, ⟨8, _⟩ => ⟨S_, .i32⟩
  | .hbm, ⟨9, _⟩ => ⟨S_, .f32⟩
  | .hbm, ⟨10, _⟩ => ⟨S130x130x256, .f32⟩
  | .hbm, ⟨11, _⟩ => ⟨S_, .f32⟩
  | .hbm, ⟨12, _⟩ => ⟨S128x128x512, .f32⟩
  | .hbm, ⟨13, _⟩ => ⟨S128x128x256, .f32⟩
  | .hbm, ⟨14, _⟩ => ⟨S1x1x256x512, .f32⟩
  | .hbm, ⟨15, _⟩ => ⟨S256x512, .f32⟩
  | .hbm, ⟨16, _⟩ => ⟨S128x128x512, .f32⟩
  | .hbm, ⟨17, _⟩ => ⟨S128x128x512, .f32⟩
  | .hbm, ⟨18, _⟩ => ⟨S128x128x256, .f32⟩
  | .hbm, ⟨19, _⟩ => ⟨S1x1x256x512, .f32⟩
  | .hbm, ⟨20, _⟩ => ⟨S256x512, .f32⟩
  | .hbm, ⟨21, _⟩ => ⟨S128x128x512, .f32⟩
  | .hbm, ⟨22, _⟩ => ⟨S128x128x512, .f32⟩
  | .hbm, ⟨23, _⟩ => ⟨S128x128x256, .f32⟩
  | .hbm, ⟨24, _⟩ => ⟨S1x1x256x512, .f32⟩
  | .hbm, ⟨25, _⟩ => ⟨S256x512, .f32⟩
  | .hbm, ⟨26, _⟩ => ⟨S128x128x512, .f32⟩
  | .hbm, ⟨27, _⟩ => ⟨S128x128x512, .f32⟩
  | .hbm, ⟨28, _⟩ => ⟨S128x128x256, .f32⟩
  | .hbm, ⟨29, _⟩ => ⟨S1x1x256x512, .f32⟩
  | .hbm, ⟨30, _⟩ => ⟨S256x512, .f32⟩
  | .hbm, ⟨31, _⟩ => ⟨S128x128x512, .f32⟩
  | .hbm, ⟨32, _⟩ => ⟨S128x128x512, .f32⟩
  | .hbm, ⟨33, _⟩ => ⟨S128x128x256, .f32⟩
  | .hbm, ⟨34, _⟩ => ⟨S1x1x256x512, .f32⟩
  | .hbm, ⟨35, _⟩ => ⟨S256x512, .f32⟩
  | .hbm, ⟨36, _⟩ => ⟨S128x128x512, .f32⟩
  | .hbm, ⟨37, _⟩ => ⟨S128x128x512, .f32⟩
  | .hbm, ⟨38, _⟩ => ⟨S128x128x256, .f32⟩
  | .hbm, ⟨39, _⟩ => ⟨S1x1x256x512, .f32⟩
  | .hbm, ⟨40, _⟩ => ⟨S256x512, .f32⟩
  | .hbm, ⟨41, _⟩ => ⟨S128x128x512, .f32⟩
  | .hbm, ⟨42, _⟩ => ⟨S128x128x512, .f32⟩
  | .hbm, ⟨43, _⟩ => ⟨S128x128x256, .f32⟩
  | .hbm, ⟨44, _⟩ => ⟨S1x1x256x512, .f32⟩
  | .hbm, ⟨45, _⟩ => ⟨S256x512, .f32⟩
  | .hbm, ⟨46, _⟩ => ⟨S128x128x512, .f32⟩
  | .hbm, ⟨47, _⟩ => ⟨S128x128x512, .f32⟩
  | .hbm, ⟨48, _⟩ => ⟨S128x128x256, .f32⟩
  | .hbm, ⟨49, _⟩ => ⟨S1x1x256x512, .f32⟩
  | .hbm, ⟨50, _⟩ => ⟨S256x512, .f32⟩
  | .hbm, ⟨51, _⟩ => ⟨S128x128x512, .f32⟩
  | .hbm, ⟨52, _⟩ => ⟨S128x128x512, .f32⟩
  | .hbm, ⟨53, _⟩ => ⟨S128x128x256, .f32⟩
  | .hbm, ⟨54, _⟩ => ⟨S1x1x256x512, .f32⟩
  | .hbm, ⟨55, _⟩ => ⟨S256x512, .f32⟩
  | .hbm, ⟨56, _⟩ => ⟨S128x128x512, .f32⟩
  | .hbm, ⟨57, _⟩ => ⟨S128x128x512, .f32⟩
  | .hbm, ⟨58, _⟩ => ⟨S1x1x512, .f32⟩
  | .hbm, ⟨59, _⟩ => ⟨S128x128x512, .f32⟩
  | .hbm, ⟨60, _⟩ => ⟨S128x128x512, .f32⟩
  | .hbm, ⟨61, _⟩ => ⟨S_, .f32⟩
  | .hbm, ⟨62, _⟩ => ⟨S128x128x512, .f32⟩
  | .hbm, ⟨63, _⟩ => ⟨S128x128x512, .f32⟩
  | .hbm, ⟨64, _⟩ => ⟨S512x6, .f32⟩
  | .hbm, ⟨65, _⟩ => ⟨S128x128x6, .f32⟩
  | .hbm, ⟨66, _⟩ => ⟨S1x1x6, .f32⟩
  | .hbm, ⟨67, _⟩ => ⟨S128x128x6, .f32⟩
  | .hbm, ⟨68, _⟩ => ⟨S128x128x6, .f32⟩
  | .hbm, ⟨69, _⟩ => ⟨S512x12, .f32⟩
  | .hbm, ⟨70, _⟩ => ⟨S128x128x12, .f32⟩
  | .hbm, ⟨71, _⟩ => ⟨S1x1x12, .f32⟩
  | .hbm, ⟨72, _⟩ => ⟨S128x128x12, .f32⟩
  | .hbm, ⟨73, _⟩ => ⟨S128x128x12, .f32⟩
  | .hbm, ⟨74, _⟩ => ⟨S16384x6, .f32⟩
  | .hbm, ⟨75, _⟩ => ⟨S49152x4, .f32⟩
  | _, _ => ⟨S1x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_call1_cst : Ref sig .tc := ⟨.hbm, 61, rfl⟩
abbrev main_call1_v0 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Proof.Scratch.lean ====
/-
  What the body leaves in its three scratch buffers, as operations on whole vectors.

  The first scratch, `[130, 128, 768]`, holds the padded image three times over, shifted by one column: channels `0..255`
  the image one column to the left, `256..511` the image itself, `512..767` the image one column to the right. At the first
  grid point its border is zeroed (`prep`); at each of the first eight points sixteen image rows are written into it
  (`conv`). Both are read here off the stores of the body, each store being a `VecWindow.put`.
-/
module

public import proofs.«01_k».proof.Proof.Gen.KernelIdeal.Skeleton
public import Idealize.ShloMosaic.Lib.VecWindow
public import Idealize.ShloMosaic.Lib.Pointwise

@[expose] public section

noncomputable section

namespace Cert.KernelIdeal.Hand

open Cert.KernelIdeal Cert.KernelIdeal.Gen
open Idealize.ShloMosaic Idealize.ShloMosaic.VecWindow

variable {F : FTy → Type} [FloatOps F]

/-- A window read, a part of it replaced and the window stored back: only that part is written. -/
theorem put_blend {α : Type} {s : Shape} (x : s.Idx → α) (off size st usz off' : Fin s.rank → ℕ)
    (inb : ∀ a, off a + size a ≤ s.size a) (h : (Rect.unit off size inb).shape.Slices st ⟨s.rank, usz⟩)
    (w : (⟨s.rank, usz⟩ : Shape).Idx → α) (heq : off' = fun a => off a + st a) :
    put x off size (updateSlice (u := ⟨s.rank, usz⟩) (window x off size inb) w st h) = put x off' usz w := by
  subst heq
  funext y
  by_cases hy : ∀ a, off a ≤ (y a).val ∧ (y a).val < off a + size a
  · have e1 : put x off size (updateSlice (u := ⟨s.rank, usz⟩) (window x off size inb) w st h) y
        = updateSlice (u := ⟨s.rank, usz⟩) (window x off size inb) w st h (Rect.unitLocal (s := s) (off := off) (size := size) y hy) := dif_pos hy
    rw [e1]
    by_cases hz : ∀ a, off a + st a ≤ (y a).val ∧ (y a).val < off a + st a + usz a
    · have e2 : put x (fun a => off a + st a) usz w y = w (Rect.unitLocal (s := s) (off := fun a => off a + st a) (size := usz) y hz) := dif_pos hz
      have hin : ∀ a : Fin s.rank, st a ≤ (Rect.unitLocal (s := s) (off := off) (size := size) y hy a).val
          ∧ (Rect.unitLocal (s := s) (off := off) (size := size) y hy a).val < st a + usz a := fun a => by
        rw [Rect.unitLocal_val]; have := hz a; omega
      rw [e2]
      refine (dif_pos hin).trans (congrArg w (funext fun a => Fin.ext ?_))
      show (Rect.unitLocal (s := s) (off := off) (size := size) y hy a).val - st a = (y a).val - (off a + st a)
      rw [Rect.unitLocal_val]; omega
    · have e2 : put x (fun a => off a + st a) usz w y = x y := dif_neg hz
      have hin : ¬ ∀ a : Fin s.rank, st a ≤ (Rect.unitLocal (s := s) (off := off) (size := size) y hy a).val
          ∧ (Rect.unitLocal (s := s) (off := off) (size := size) y hy a).val < st a + usz a := fun hall => hz fun a => by
        have := hall a; rw [Rect.unitLocal_val] at this; have := hy a; omega
      rw [e2]
      refine (dif_neg hin).trans (congrArg x (funext fun a => Fin.ext ?_))
      show off a + 1 * (Rect.unitLocal (s := s) (off := off) (size := size) y hy a).val = (y a).val
      rw [Rect.unitLocal_val]; have := hy a; omega
  · have e1 : put x off size (updateSlice (u := ⟨s.rank, usz⟩) (window x off size inb) w st h) y = x y := dif_neg hy
    have hz : ¬ ∀ a, off a + st a ≤ (y a).val ∧ (y a).val < off a + st a + usz a := fun hall => hy fun a => by
      have h1 := hall a
      have h2 : st a + usz a ≤ size a := h.2 a
      omega
    have e2 : put x (fun a => off a + st a) usz w y = x y := dif_neg hz
    rw [e1, e2]

/-- The image scratch with its border zeroed: the first and the last row, the first column of the left-shifted copy and
    the last column of the right-shifted one. -/
def prep (x : S130x128x768.Idx → F .bf16) : S130x128x768.Idx → F .bf16 :=
  put (put (put (put x ![0, 0, 0] S1x128x768.size (k0_pay12 (F := F))) ![129, 0, 0] S1x128x768.size (k0_pay13 (F := F)))
    ![0, 0, 0] S130x1x256.size (k0_pay14 (F := F))) ![0, 127, 512] S130x1x256.size (k0_pay15 (F := F))

/-- The image scratch with the sixteen image rows `b` written at rows `16 n + 1 …`, in the three shifted copies. -/
def conv (n : ℕ) (b : Vec F S1x16x128x256 .f32) (x : S130x128x768.Idx → F .bf16) : S130x128x768.Idx → F .bf16 :=
  put (put (put x ![16 * n + 1, 1, 0] S16x127x256.size (k0_pay3 b)) ![16 * n + 1, 0, 256] S16x128x256.size (k0_pay4 b))
    ![16 * n + 1, 0, 512] S16x127x256.size (k0_pay5 b)

/-- The two head weights side by side, six columns and twelve, over whatever the buffer held. -/
def heads (w2 : Vec F S1x1x512x6 .f32) (w3 : Vec F S1x1x512x12 .f32) (x : S512x18.Idx → F .bf16) : S512x18.Idx → F .bf16 :=
  put (put x ![0, 0] S512x6.size (k0_pay17 w2)) ![0, 6] S512x12.size (k0_pay1 w3)

/-- The 2048 hidden activations of one row block, before the relu: three products over the rows `r`, `r + 1`, `r + 2` of
    the image scratch, and the bias. -/
def hidden (i : grid0.Coords) (h3 : k0_cond3 i = 1#1) (x : S130x128x768.Idx → F .bf16) (w1 : S3x768x512.Idx → F .bf16)
    (b1 : Vec F S512 .f32) : FVec F S2048x512 .f32 :=
  k0_pay18 (window x (k0_off6 i 0#32) S16x128x768.size (k0_off6_inb i h3 0))
    (window w1 ![0, 0, 0] S1x768x512.size inb_S3x768x512_S1x768x512_0_0_0)
    (window x (k0_off6 i 1#32) S16x128x768.size (k0_off6_inb i h3 1))
    (window w1 ![1, 0, 0] S1x768x512.size inb_S3x768x512_S1x768x512_1_0_0)
    (window x (k0_off6 i 2#32) S16x128x768.size (k0_off6_inb i h3 2))
    (window w1 ![2, 0, 0] S1x768x512.size inb_S3x768x512_S1x768x512_2_0_0) b1

/-- The box outputs of one row block from its hidden activations: three anchors a pixel, row `3 p + a` anchor `a` of pixel `p`. -/
def boxes (v : FVec F S2048x512 .f32) (w23 : S512x18.Idx → F .bf16) (b3 : Vec F S12 .f32) : S6144x4.Idx → F .f32 := fun y =>
  let p : S2048x4.Idx := ix2 ⟨(y 0).val / 3, by have h : (y 0).val < 6144 := (y 0).isLt; omega⟩ (y 1)
  if (y 0).val % 3 = 0 then k0_pay8 v w23 (window b3 ![0] S4.size inb_S12_S4_0) p
  else if (y 0).val % 3 = 1 then k0_pay9 v w23 (window b3 ![4] S4.size inb_S12_S4_4) p
  else k0_pay10 v w23 (window b3 ![8] S4.size inb_S12_S4_8) p

end Cert.KernelIdeal.Hand
-- ==== Proof.Body.lean ====
/-
  The kernel's body, run once for each of its three kinds of grid point.

  The body is three guarded parts. At the first point it zeroes the border of the image scratch and casts the weights into
  the two weight scratches. At the first eight points it copies sixteen image rows into the image scratch. At every point
  but the first it computes one row block of both outputs from the scratches. So a point is the first (parts one and two),
  a middle one (parts two and three) or the last (part three), and each kind has its own run here.
-/
module

public import proofs.«01_k».proof.Proof.Gen.KernelIdeal.Frame
public import proofs.«01_k».proof.Proof.Scratch
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (put window)

variable {F : FTy → Type} [FloatOps F]

local notation "𝕄" => MT nD τ sig Unit (Elt F) ℕ (UR sig nD τ) ℕ

/-! ## What stores leave, read through the whole buffer -/

section Stores

variable {sp : Space} {s : Shape} {e : EltTy}

/-- A store that blends a part into a window it has just read leaves the earlier contents with that part put there. -/
theorem read_blend (v : View sig .tc sp s e) (f : v.ty.Contents (Elt F)) (L : List (View.Piece (Elt F) s e))
    {off off' size st usz off'' : Fin s.rank → ℕ} (inb : ∀ a, off a + size a ≤ s.size a)
    (h : (Rect.unit off size inb).shape.Slices st ⟨s.rank, usz⟩) (w : (⟨s.rank, usz⟩ : Shape).Idx → Elt F e)
    (old : (Rect.unit off size inb).shape.Idx → Elt F e)
    (hold : old = v.readAt (Elt F) (Rect.unit off size inb).toLoadRect (v.writes (Elt F) f L))
    (hoff : off = off') (hst : off'' = fun a => off' a + st a) :
    v.read (Elt F) (v.writes (Elt F) f (⟨Rect.unit off size inb, updateSlice (u := ⟨s.rank, usz⟩) old w st h⟩ :: L))
      = put (v.read (Elt F) (v.writes (Elt F) f L)) off'' usz w := by
  subst hoff
  rw [View.read_writes_cons_put v f inb _ L rfl, hold, View.readAt_unit v _ inb rfl inb]
  exact put_blend _ off size st usz off'' inb h w hst

/-- The three stores of one row block into the image scratch, over any earlier stores. -/
theorem read_conv (v : View sig .tc sp S130x128x768 .bf16) (f : v.ty.Contents (Elt F)) (L : List (View.Piece (Elt F) S130x128x768 .bf16))
    (i : grid0.Coords) (h2 : k0_cond2 i = 1#1) (b : Vec F S1x16x128x256 .f32)
    (old : (Rect.unit (s := S130x128x768) (k0_off2 i) S16x128x256.size (k0_off2_inb i h2)).shape.Idx → Elt F .bf16)
    (hold : old = v.readAt (Elt F) (Rect.unit (s := S130x128x768) (k0_off2 i) S16x128x256.size (k0_off2_inb i h2)).toLoadRect (v.writes (Elt F) f L))
    (old' : (Rect.unit (s := S130x128x768) (k0_off5 i) S16x128x256.size (k0_off5_inb i h2)).shape.Idx → Elt F .bf16)
    (hold' : old' = v.readAt (Elt F) (Rect.unit (s := S130x128x768) (k0_off5 i) S16x128x256.size (k0_off5_inb i h2)).toLoadRect
      (v.writes (Elt F) f (⟨Rect.unit (s := S130x128x768) (k0_off3 i) S16x128x256.size (k0_off3_inb i h2), k0_pay4 b⟩
        :: ⟨Rect.unit (s := S130x128x768) (k0_off2 i) S16x128x256.size (k0_off2_inb i h2),
            updateSlice old (k0_pay3 b) ![0, 1, 0] slices_S16x128x256_S16x127x256_0_1_0⟩ :: L))) :
    v.read (Elt F) (v.writes (Elt F) f
        (⟨Rect.unit (s := S130x128x768) (k0_off5 i) S16x128x256.size (k0_off5_inb i h2),
            updateSlice old' (k0_pay5 b) ![0, 0, 0] slices_S16x128x256_S16x127x256_0_0_0⟩
          :: ⟨Rect.unit (s := S130x128x768) (k0_off3 i) S16x128x256.size (k0_off3_inb i h2), k0_pay4 b⟩
          :: ⟨Rect.unit (s := S130x128x768) (k0_off2 i) S16x128x256.size (k0_off2_inb i h2),
            updateSlice old (k0_pay3 b) ![0, 1, 0] slices_S16x128x256_S16x127x256_0_1_0⟩ :: L))
      = conv (i 0).val b (v.read (Elt F) (v.writes (Elt F) f L)) := by
  unfold conv
  rw [← read_blend v f L (k0_off2_inb i h2) slices_S16x128x256_S16x127x256_0_1_0 (k0_pay3 b) old hold (k0_off2_eq i)
      (off'' := ![16 * (i 0).val + 1, 1, 0]) (by funext a; fin_cases a <;> rfl),
    ← View.read_writes_cons_put v f (k0_off3_inb i h2) (k0_pay4 b) _ (k0_off3_eq i)]
  exact read_blend v f _ (k0_off5_inb i h2) slices_S16x128x256_S16x127x256_0_0_0 (k0_pay5 b) old' hold' (k0_off5_eq i)
    (by funext a; fin_cases a <;> rfl)

/-- The four stores that prepare the image scratch. -/
theorem read_prep (v : View sig .tc sp S130x128x768 .bf16) (f : v.ty.Contents (Elt F))
    (old : (Rect.unit (s := S130x128x768) ![0, 0, 0] S130x2x256.size inb_S130x128x768_S130x2x256_0_0_0).shape.Idx → Elt F .bf16)
    (hold : old = v.readAt (Elt F) (Rect.unit (s := S130x128x768) ![0, 0, 0] S130x2x256.size inb_S130x128x768_S130x2x256_0_0_0).toLoadRect
      (v.writes (Elt F) f [⟨Rect.unit (s := S130x128x768) ![129, 0, 0] S1x128x768.size inb_S130x128x768_S1x128x768_129_0_0, k0_pay13⟩,
        ⟨Rect.unit (s := S130x128x768) ![0, 0, 0] S1x128x768.size inb_S130x128x768_S1x128x768_0_0_0, k0_pay12⟩]))
    (old' : (Rect.unit (s := S130x128x768) ![0, 126, 512] S130x2x256.size inb_S130x128x768_S130x2x256_0_126_512).shape.Idx → Elt F .bf16)
    (hold' : old' = v.readAt (Elt F) (Rect.unit (s := S130x128x768) ![0, 126, 512] S130x2x256.size inb_S130x128x768_S130x2x256_0_126_512).toLoadRect
      (v.writes (Elt F) f [⟨Rect.unit (s := S130x128x768) ![0, 0, 0] S130x2x256.size inb_S130x128x768_S130x2x256_0_0_0,
            updateSlice old k0_pay14 ![0, 0, 0] slices_S130x2x256_S130x1x256_0_0_0⟩,
        ⟨Rect.unit (s := S130x128x768) ![129, 0, 0] S1x128x768.size inb_S130x128x768_S1x128x768_129_0_0, k0_pay13⟩,
        ⟨Rect.unit (s := S130x128x768) ![0, 0, 0] S1x128x768.size inb_S130x128x768_S1x128x768_0_0_0, k0_pay12⟩])) :
    v.read (Elt F) (v.writes (Elt F) f
        [⟨Rect.unit (s := S130x128x768) ![0, 126, 512] S130x2x256.size inb_S130x128x768_S130x2x256_0_126_512,
            updateSlice old' k0_pay15 ![0, 1, 0] slices_S130x2x256_S130x1x256_0_1_0⟩,
        ⟨Rect.unit (s := S130x128x768) ![0, 0, 0] S130x2x256.size inb_S130x128x768_S130x2x256_0_0_0,
            updateSlice old k0_pay14 ![0, 0, 0] slices_S130x2x256_S130x1x256_0_0_0⟩,
        ⟨Rect.unit (s := S130x128x768) ![129, 0, 0] S1x128x768.size inb_S130x128x768_S1x128x768_129_0_0, k0_pay13⟩,
        ⟨Rect.unit (s := S130x128x768) ![0, 0, 0] S1x128x768.size inb_S130x128x768_S1x128x768_0_0_0, k0_pay12⟩])
      = prep (v.read (Elt F) f) := by
  have e0 : v.read (Elt F) (v.writes (Elt F) f [⟨Rect.unit (s := S130x128x768) ![0, 0, 0] S1x128x768.size inb_S130x128x768_S1x128x768_0_0_0, k0_pay12⟩])
      = put (v.read (Elt F) f) ![0, 0, 0] S1x128x768.size k0_pay12 := View.read_writes_cons_put v f _ _ [] rfl
  unfold prep
  rw [← e0, ← View.read_writes_cons_put v f inb_S130x128x768_S1x128x768_129_0_0 k0_pay13 _ rfl,
    ← read_blend v f _ inb_S130x128x768_S130x2x256_0_0_0 slices_S130x2x256_S130x1x256_0_0_0 k0_pay14 old hold rfl
      (off'' := ![0, 0, 0]) (by funext a; fin_cases a <;> rfl)]
  exact read_blend v f _ inb_S130x128x768_S130x2x256_0_126_512 slices_S130x2x256_S130x1x256_0_1_0 k0_pay15 old' hold' rfl
    (by funext a; fin_cases a <;> rfl)

/-- A window stored by the middle copy keeps apart from the last copy's window, and the first copy's too. -/
theorem readAt_conv (v : View sig .tc sp S130x128x768 .bf16) (f : v.ty.Contents (Elt F)) (L : List (View.Piece (Elt F) S130x128x768 .bf16))
    (i : grid0.Coords) (h2 : k0_cond2 i = 1#1)
    (w4 : (Rect.unit (s := S130x128x768) (k0_off3 i) S16x128x256.size (k0_off3_inb i h2)).shape.Idx → Elt F .bf16)
    (w3 : (Rect.unit (s := S130x128x768) (k0_off2 i) S16x128x256.size (k0_off2_inb i h2)).shape.Idx → Elt F .bf16) :
    v.readAt (Elt F) (Rect.unit (s := S130x128x768) (k0_off5 i) S16x128x256.size (k0_off5_inb i h2)).toLoadRect (v.writes (Elt F) f L)
      = v.readAt (Elt F) (Rect.unit (s := S130x128x768) (k0_off5 i) S16x128x256.size (k0_off5_inb i h2)).toLoadRect
          (v.writes (Elt F) f (⟨Rect.unit (s := S130x128x768) (k0_off3 i) S16x128x256.size (k0_off3_inb i h2), w4⟩
            :: ⟨Rect.unit (s := S130x128x768) (k0_off2 i) S16x128x256.size (k0_off2_inb i h2), w3⟩ :: L)) := by
  rw [View.readAt_unit v _ _ rfl (k0_off5_inb i h2), View.readAt_unit v _ _ rfl (k0_off5_inb i h2),
    View.read_writes_cons_put v f (k0_off3_inb i h2) w4 _ rfl, View.read_writes_cons_put v f (k0_off2_inb i h2) w3 _ rfl,
    VecWindow.window_put_of_disjoint _ _ _ _ _ _ _ 2 (.inr (by rw [k0_off3_eq, k0_off5_eq]; exact (by decide : 256 + 256 ≤ 512))),
    VecWindow.window_put_of_disjoint _ _ _ _ _ _ _ 2 (.inr (by rw [k0_off2_eq, k0_off5_eq]; exact (by decide : 0 + 256 ≤ 512)))]

/-- The hidden activations from loads of the scratches and of the bias. -/
theorem hidden_of_loads {sp' sp'' : Space} (v : View sig .tc sp S130x128x768 .bf16) (g : v.ty.Contents (Elt F))
    (v' : View sig .tc sp' S3x768x512 .bf16) (g' : v'.ty.Contents (Elt F)) (v'' : View sig .tc sp'' S512 .f32) (g'' : v''.ty.Contents (Elt F))
    (i : grid0.Coords) (h3 : k0_cond3 i = 1#1) :
    k0_pay18 (v.readAt (Elt F) (Rect.unit (s := S130x128x768) (k0_off6 i 0#32) S16x128x768.size (k0_off6_inb i h3 0)).toLoadRect g)
      (v'.readAt (Elt F) (Rect.unit (s := S3x768x512) ![0, 0, 0] S1x768x512.size inb_S3x768x512_S1x768x512_0_0_0).toLoadRect g')
      (v.readAt (Elt F) (Rect.unit (s := S130x128x768) (k0_off6 i 1#32) S16x128x768.size (k0_off6_inb i h3 1)).toLoadRect g)
      (v'.readAt (Elt F) (Rect.unit (s := S3x768x512) ![1, 0, 0] S1x768x512.size inb_S3x768x512_S1x768x512_1_0_0).toLoadRect g')
      (v.readAt (Elt F) (Rect.unit (s := S130x128x768) (k0_off6 i 2#32) S16x128x768.size (k0_off6_inb i h3 2)).toLoadRect g)
      (v'.readAt (Elt F) (Rect.unit (s := S3x768x512) ![2, 0, 0] S1x768x512.size inb_S3x768x512_S1x768x512_2_0_0).toLoadRect g')
      (v''.readAt (Elt F) (Rect.unit (s := S512) ![0] S512.size inb_S512_S512_0).toLoadRect g'')
      = hidden i h3 (v.read (Elt F) g) (v'.read (Elt F) g') (v''.read (Elt F) g'') := by
  rw [View.readAt_full v'' g'']
  rfl

/-- The three strided stores of the box outputs fill the block: row `3 p + a` is row `p` of the store of anchor `a`. -/
theorem read_boxes (v : View sig .tc sp S6144x4 .f32) (f : v.ty.Contents (Elt F)) (a : FVec F S2048x512 .f32) (w : Vec F S512x18 .bf16)
    (b : Vec F S12 .f32) :
    v.read (Elt F) (v.writes (Elt F) f
        [⟨⟨⟨![2, 0], S2048x4.size, ![3, 1], inb_S6144x4_S2048x4_2_0_s_3_1⟩, spos_3_1⟩, k0_pay10 a w (window b ![8] S4.size inb_S12_S4_8)⟩,
        ⟨⟨⟨![1, 0], S2048x4.size, ![3, 1], inb_S6144x4_S2048x4_1_0_s_3_1⟩, spos_3_1⟩, k0_pay9 a w (window b ![4] S4.size inb_S12_S4_4)⟩,
        ⟨⟨⟨![0, 0], S2048x4.size, ![3, 1], inb_S6144x4_S2048x4_0_0_s_3_1⟩, spos_3_1⟩, k0_pay8 a w (window b ![0] S4.size inb_S12_S4_0)⟩])
      = boxes a w b := by
  have key : ∀ (x : S2048x4.Idx) (y : S6144x4.Idx) (r : ℕ), r < 3 → (y 0).val = r + 3 * (x 0).val → (y 1).val = (x 1).val →
      (y 0).val % 3 = r ∧ (ix2 ⟨(y 0).val / 3, by have h : (y 0).val < 6144 := (y 0).isLt; omega⟩ (y 1) : S2048x4.Idx) = x := by
    intro x y r hr h0 h1
    refine ⟨by omega, funext fun d => ?_⟩
    fin_cases d
    · exact Fin.ext (by show (y 0).val / 3 = (x 0).val; omega)
    · exact Fin.ext h1
  funext y
  refine View.read_writes_apply_of_pieces v f (boxes a w b) _ ?_ y ?_
  · intro p hp x
    simp only [List.mem_cons, List.not_mem_nil, or_false] at hp
    rcases hp with rfl | rfl | rfl
    · obtain ⟨hm, hx⟩ := key x ((⟨⟨![2, 0], S2048x4.size, ![3, 1], inb_S6144x4_S2048x4_2_0_s_3_1⟩, spos_3_1⟩ : Rect S6144x4).emb x) 2
        (by omega) rfl (by show 0 + 1 * (x 1).val = (x 1).val; omega)
      unfold boxes
      simp only [hm, hx]
      rfl
    · obtain ⟨hm, hx⟩ := key x ((⟨⟨![1, 0], S2048x4.size, ![3, 1], inb_S6144x4_S2048x4_1_0_s_3_1⟩, spos_3_1⟩ : Rect S6144x4).emb x) 1
        (by omega) rfl (by show 0 + 1 * (x 1).val = (x 1).val; omega)
      unfold boxes
      simp only [hm, hx]
      rfl
    · obtain ⟨hm, hx⟩ := key x ((⟨⟨![0, 0], S2048x4.size, ![3, 1], inb_S6144x4_S2048x4_0_0_s_3_1⟩, spos_3_1⟩ : Rect S6144x4).emb x) 0
        (by omega) rfl (by show 0 + 1 * (x 1).val = (x 1).val; omega)
      unfold boxes
      simp only [hm, hx]
      rfl
  · have hy : (y 0).val < 6144 := (y 0).isLt
    have hit : ∀ (r : Rect S6144x4) (k : ℕ) (hs : r.shape = S2048x4) , r.off = ![k, 0] → r.stride = ![3, 1] → r.size = S2048x4.size →
        (y 0).val % 3 = k → y ∈ r.set := by
      intro r k hs ho hst hsz hk
      refine r.mem_set.mpr fun d => ?_
      rw [ho, hst, hsz]
      fin_cases d
      · exact ⟨(y 0).val / 3, by show (y 0).val / 3 < 2048; omega, by show (y 0).val = k + 3 * ((y 0).val / 3); omega⟩
      · exact ⟨(y 1).val, (y 1).isLt, by show (y 1).val = 0 + 1 * (y 1).val; omega⟩
    rcases (by omega : (y 0).val % 3 = 0 ∨ (y 0).val % 3 = 1 ∨ (y 0).val % 3 = 2) with h | h | h
    · exact ⟨_, List.mem_cons_of_mem _ (List.mem_cons_of_mem _ List.mem_cons_self), hit _ 0 rfl rfl rfl rfl h⟩
    · exact ⟨_, List.mem_cons_of_mem _ List.mem_cons_self, hit _ 1 rfl rfl rfl rfl h⟩
    · exact ⟨_, List.mem_cons_self, hit _ 2 rfl rfl rfl rfl h⟩

end Stores

/-- The three row offsets a row block reads the image scratch at, in closed form (at the first point, where no block is
    read, the words wrap around). -/
theorem off6_eq : ∀ (i : grid0.Coords) (r : Fin 3), k0_off6 i (BitVec.ofNat 32 r.val)
    = ![(16 * (i 0).val + 4294967280 + r.val) % 4294967296, 0, 0] := by decide +kernel
instance closedOff_off6_0 (i : grid0.Coords) : ClosedOff (k0_off6 i 0#32) :=
  ⟨![(16 * (i 0).val + 4294967280 + 0) % 4294967296, 0, 0], off6_eq i 0⟩
instance closedOff_off6_1 (i : grid0.Coords) : ClosedOff (k0_off6 i 1#32) :=
  ⟨![(16 * (i 0).val + 4294967280 + 1) % 4294967296, 0, 0], off6_eq i 1⟩
instance closedOff_off6_2 (i : grid0.Coords) : ClosedOff (k0_off6 i 2#32) :=
  ⟨![(16 * (i 0).val + 4294967280 + 2) % 4294967296, 0, 0], off6_eq i 2⟩

/-! ## The runs -/

section Runs

variable (c : Dev nD) (i : grid0.Coords)
  (arg1 : Memref sig .tc .vmem S1x16x128x256 .f32) (harg1 : arg1.IsWhole) (arg2 : Memref sig .tc .vmem S3x3x256x512 .f32) (harg2 : arg2.IsWhole)
  (arg3 : Memref sig .tc .vmem S1x1x512x6 .f32) (harg3 : arg3.IsWhole) (arg4 : Memref sig .tc .vmem S1x1x512x12 .f32) (harg4 : arg4.IsWhole)
  (arg5 : Memref sig .tc .vmem S512 .f32) (harg5 : arg5.IsWhole) (arg6 : Memref sig .tc .vmem S6 .f32) (harg6 : arg6.IsWhole)
  (arg7 : Memref sig .tc .vmem S12 .f32) (harg7 : arg7.IsWhole) (arg8 : Memref sig .tc .vmem S2048x6 .f32) (harg8 : arg8.IsWhole)
  (arg9 : Memref sig .tc .vmem S6144x4 .f32) (harg9 : arg9.IsWhole) (arg10 : Memref sig .tc .vmem S130x128x768 .bf16) (harg10 : arg10.IsWhole)
  (arg11 : Memref sig .tc .vmem S3x768x512 .bf16) (harg11 : arg11.IsWhole) (arg12 : Memref sig .tc .vmem S512x18 .bf16) (harg12 : arg12.IsWhole)
  (x1 : Vec F S1x16x128x256 .f32) (x2 : Vec F S3x3x256x512 .f32) (x3 : Vec F S1x1x512x6 .f32) (x4 : Vec F S1x1x512x12 .f32)
  (x5 : Vec F S512 .f32) (x6 : Vec F S6 .f32) (x7 : Vec F S12 .f32) (x8 : Vec F S2048x6 .f32) (x9 : Vec F S6144x4 .f32)
  (x10 : Vec F S130x128x768 .bf16) (x11 : Vec F S3x768x512 .bf16) (x12 : Vec F S512x18 .bf16)

/-- The first point: the scratches prepared and the first sixteen rows copied. -/
theorem run_first
    (h1 : Scalar.cmpi .ne (Scalar.extui (Scalar.cmpi .eq (BitVec.ofNat 32 (i 0).val) 0#32) : BitVec 32) 0#32 = 1#1)
    (h2 : k0_cond2 i = 1#1) (h3 : ¬ k0_cond3 i = 1#1)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg10 fullShare x10 ∗ owns (c : Thread nD τ) arg11 fullShare x11
        ∗ owns (c : Thread nD τ) arg12 fullShare x12
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg10 fullShare (conv (i 0).val x1 (prep x10))
            ∗ owns (c : Thread nD τ) arg11 fullShare (k0_pay16 x2)
            ∗ owns (c : Thread nD τ) arg12 fullShare (heads x3 x4 x12)) -∗ K ⟨⟩))
      ⊢ wp frame (wpE (defs₀ (F := F)) Variants.none c none) Set.univ
          (cc0__fused_rpn_body i arg1 harg1 arg2 harg2 arg3 harg3 arg4 harg4 arg5 harg5 arg6 harg6 arg7 harg7 arg8 harg8 arg9 harg9 arg10 harg10 arg11 harg11 arg12 harg12) K := by
  simp only [cc0__fused_rpn_body_eq_skeleton]; unfold cc0__fused_rpn_body_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f10, %e10, H10⟩, ⟨%f11, %e11, H11⟩, ⟨%f12, %e12, H12⟩, Hk⟩
  sl_exec (disch := first | sl_exact h1 | sl_exact h2 | sl_exact h3)
  sl_step
  iapply Hk
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H10]
  · iexists _; isplitr; swap; · iexact H10
    ipureintro
    sl_unfold_words
    refine (read_conv arg10.view f10 _ i h2 _ _ rfl _ rfl).trans ?_
    rw [read_prep arg10.view f10 _ rfl _ rfl, e10]
    exact congrArg (fun b => conv (i 0).val b (prep x10)) ((View.readAt_full arg1.view f1 _).trans e1)
  isplitl [H11]
  · iexists _; isplitr; swap; · iexact H11
    ipureintro
    refine (View.read_writes_full arg11.view f11 _ _ _).trans (congrArg k0_pay16 ?_)
    exact (View.readAt_full arg2.view f2 _).trans e2
  · iexists _; isplitr; swap; · iexact H12
    ipureintro
    refine (View.read_writes_cons_put arg12.view f12 _ _ _ rfl).trans ?_
    rw [View.read_writes_cons_put arg12.view f12 _ _ _ rfl]
    sl_unfold_words
    rw [View.writes_nil, e12, show _ = x3 from (View.readAt_full arg3.view f3 _).trans e3,
      show _ = x4 from (View.readAt_full arg4.view f4 _).trans e4]
    rfl

/-- The last point: the last row block from the scratches. -/
theorem run_last
    (h1 : ¬ Scalar.cmpi .ne (Scalar.extui (Scalar.cmpi .eq (BitVec.ofNat 32 (i 0).val) 0#32) : BitVec 32) 0#32 = 1#1)
    (h2 : ¬ k0_cond2 i = 1#1) (h3 : k0_cond3 i = 1#1)
    (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ (iprop(owns (c : Thread nD τ) arg5 fullShare x5 ∗ owns (c : Thread nD τ) arg6 fullShare x6 ∗ owns (c : Thread nD τ) arg7 fullShare x7 ∗ owns (c : Thread nD τ) arg8 fullShare (k0_pay7 (hidden i h3 x10 x11 x5) x12 x6) ∗ owns (c : Thread nD τ) arg9 fullShare (boxes (hidden i h3 x10 x11 x5) x12 x7) ∗ owns (c : Thread nD τ) arg10 fullShare x10 ∗ owns (c : Thread nD τ) arg11 fullShare x11 ∗ owns (c : Thread nD τ) arg12 fullShare x12) -∗ K ⟨⟩))
      ⊢ wp frame (wpE (defs₀ (F := F)) Variants.none c none) Set.univ
          (cc0__fused_rpn_body i arg1 harg1 arg2 harg2 arg3 harg3 arg4 harg4 arg5 harg5 arg6 harg6 arg7 harg7 arg8 harg8 arg9 harg9 arg10 harg10 arg11 harg11 arg12 harg12) K := by
  simp only [cc0__fused_rpn_body_eq_skeleton]; unfold cc0__fused_rpn_body_skel
  simp only [k0_part2_eq_skeleton]; unfold k0_part2_skel
  unfold owns
  iintro ⟨⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  sl_exec (disch := first | sl_exact h1 | sl_exact h2 | sl_exact h3)
  sl_step
  have hidden_eq := hidden_of_loads arg10.view f10 arg11.view f11 arg5.view f5 i h3
  rw [e10, e11, e5] at hidden_eq
  iapply Hk
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists _; isplitr; swap; · iexact H8
    ipureintro
    refine (View.read_writes_full arg8.view f8 _ _ _).trans ?_
    rw [show _ = x12 from (View.readAt_full arg12.view f12 _).trans e12, show _ = x6 from (View.readAt_full arg6.view f6 _).trans e6,
      ← hidden_eq]
  isplitl [H9]
  · iexists _; isplitr; swap; · iexact H9
    ipureintro
    rw [← hidden_eq, ← e7, ← e12, ← View.readAt_full arg12.view f12 inb_S512x18_S512x18_0_0]
    exact read_boxes arg9.view f9 _ _ _
  isplitl [H10]
  · iexists f10; isplitr; swap; · iexact H10
    ipureintro; exact e10
  isplitl [H11]
  · iexists f11; isplitr; swap; · iexact H11
    ipureintro; exact e11
  · iexists f12; isplitr; swap; · iexact H12
    ipureintro; exact e12

/-- A middle point: sixteen more rows copied, then the row block before them computed. -/
theorem run_middle
    (h1 : ¬ Scalar.cmpi .ne (Scalar.extui (Scalar.cmpi .eq (BitVec.ofNat 32 (i 0).val) 0#32) : BitVec 32) 0#32 = 1#1)
    (h2 : k0_cond2 i = 1#1) (h3 : k0_cond3 i = 1#1)
    (K : PUnit → sProp 𝕄) :
    iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ (iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg8 fullShare (k0_pay7 (hidden i h3 (conv (i 0).val x1 x10) x11 x5) x12 x6) ∗ owns (c : Thread nD τ) arg9 fullShare (boxes (hidden i h3 (conv (i 0).val x1 x10) x11 x5) x12 x7) ∗ owns (c : Thread nD τ) arg10 fullShare (conv (i 0).val x1 x10) ∗ owns (c : Thread nD τ) arg11 fullShare x11 ∗ owns (c : Thread nD τ) arg12 fullShare x12) -∗ K ⟨⟩))
      ⊢ wp frame (wpE (defs₀ (F := F)) Variants.none c none) Set.univ
          (cc0__fused_rpn_body i arg1 harg1 arg2 harg2 arg3 harg3 arg4 harg4 arg5 harg5 arg6 harg6 arg7 harg7 arg8 harg8 arg9 harg9 arg10 harg10 arg11 harg11 arg12 harg12) K := by
  simp only [cc0__fused_rpn_body_eq_skeleton]; unfold cc0__fused_rpn_body_skel
  simp only [k0_part2_eq_skeleton]; unfold k0_part2_skel
  unfold owns
  iintro ⟨⟨%f1, %e1, H1⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  sl_exec (disch := first | sl_exact h1 | sl_exact h2 | sl_exact h3)
  sl_step
  have hconv : arg10.view.read (Elt F) (arg10.view.writes (Elt F) f10 (run_middle.sl.H10_3 c i arg1 arg10 h2 f1 f10))
      = conv (i 0).val x1 x10 := by
    sl_unfold_words
    refine (read_conv arg10.view f10 [] i h2 _ _ rfl _ (readAt_conv arg10.view f10 [] i h2 _ _)).trans ?_
    rw [View.writes_nil, e10]
    exact congrArg (fun b => conv (i 0).val b x10) ((View.readAt_full arg1.view f1 _).trans e1)
  have hidden_eq := hidden_of_loads arg10.view
    (arg10.view.writes (Elt F) f10 (run_middle.sl.H10_3 c i arg1 arg10 h2 f1 f10)) arg11.view f11 arg5.view f5 i h3
  rw [hconv, e11, e5] at hidden_eq
  iapply Hk
  isplitl [H1]
  · iexists f1; isplitr; swap; · iexact H1
    ipureintro; exact e1
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists _; isplitr; swap; · iexact H8
    ipureintro
    refine (View.read_writes_full arg8.view f8 _ _ _).trans ?_
    rw [show _ = x12 from (View.readAt_full arg12.view f12 _).trans e12, show _ = x6 from (View.readAt_full arg6.view f6 _).trans e6,
      ← hidden_eq]
  isplitl [H9]
  · iexists _; isplitr; swap; · iexact H9
    ipureintro
    rw [← hidden_eq, ← e7, ← e12, ← View.readAt_full arg12.view f12 inb_S512x18_S512x18_0_0]
    exact read_boxes arg9.view f9 _ _ _
  isplitl [H10]
  · iexists _; isplitr; swap; · iexact H10
    ipureintro
    exact hconv
  isplitl [H11]
  · iexists f11; isplitr; swap; · iexact H11
    ipureintro; exact e11
  · iexists f12; isplitr; swap; · iexact H12
    ipureintro; exact e12

end Runs

end Cert.KernelIdeal.Hand
-- ==== Proof.Image.lean ====
/-
  What the image scratch is meant to hold, and that it does.

  `image xa` is the padded image in the three shifted copies, for the whole input `xa`. `done n` says which of its elements
  are written once the first `n` row blocks are copied. Preparing the scratch establishes `done 0`, copying row block `n`
  takes `done n` to `done (n + 1)`, and a row block of the output reads elements that are done only.
-/
module

public import proofs.«01_k».proof.Proof.Scratch
public import Idealize.ShloMosaic.Lib.Pointwise

@[expose] public section

noncomputable section

namespace Cert.KernelIdeal.Hand

open Cert.KernelIdeal Cert.KernelIdeal.Gen
open Idealize.ShloMosaic Idealize.ShloMosaic.VecWindow

variable {F : FTy → Type} [FloatOps F]

/-! ## A part put into a rank-3 vector, read at one element -/

section Put

variable {α : Type} {n0 n1 n2 m0 m1 m2 o0 o1 o2 : ℕ}

theorem put3_in (x : (⟨3, ![n0, n1, n2]⟩ : Shape).Idx → α) (w : (⟨3, ![m0, m1, m2]⟩ : Shape).Idx → α) (y : (⟨3, ![n0, n1, n2]⟩ : Shape).Idx)
    (p0 : Fin m0) (p1 : Fin m1) (p2 : Fin m2) (h0 : (y 0).val = o0 + p0.val) (h1 : (y 1).val = o1 + p1.val) (h2 : (y 2).val = o2 + p2.val) :
    put x ![o0, o1, o2] ![m0, m1, m2] w y = w (ix3 p0 p1 p2) := by
  have h : ∀ a, ![o0, o1, o2] a ≤ (y a).val ∧ (y a).val < ![o0, o1, o2] a + ![m0, m1, m2] a := by
    intro a
    fin_cases a
    · show o0 ≤ (y 0).val ∧ (y 0).val < o0 + m0; omega
    · show o1 ≤ (y 1).val ∧ (y 1).val < o1 + m1; omega
    · show o2 ≤ (y 2).val ∧ (y 2).val < o2 + m2; omega
  refine (dif_pos h).trans (congrArg w (funext fun a => Fin.ext ?_))
  fin_cases a
  · show (y 0).val - o0 = p0.val; omega
  · show (y 1).val - o1 = p1.val; omega
  · show (y 2).val - o2 = p2.val; omega

theorem put3_out (x : (⟨3, ![n0, n1, n2]⟩ : Shape).Idx → α) (w : (⟨3, ![m0, m1, m2]⟩ : Shape).Idx → α) (y : (⟨3, ![n0, n1, n2]⟩ : Shape).Idx)
    (h : ¬ ((o0 ≤ (y 0).val ∧ (y 0).val < o0 + m0) ∧ (o1 ≤ (y 1).val ∧ (y 1).val < o1 + m1) ∧ (o2 ≤ (y 2).val ∧ (y 2).val < o2 + m2))) :
    put x ![o0, o1, o2] ![m0, m1, m2] w y = x y :=
  dif_neg fun hall => h ⟨hall 0, hall 1, hall 2⟩

end Put

/-! ## The stored vectors at an element -/

theorem pay2_at (b : Vec F S1x16x128x256 .f32) (p : Fin 16) (q : Fin 128) (k : Fin 256) :
    k0_pay2 b (ix3 p q k) = truncf .bf16 b bitsLt_bf16_f32 (ix4 0 p q k) := by
  pointwise [k0_pay2]
theorem pay3_at (b : Vec F S1x16x128x256 .f32) (p : Fin 16) (q : Fin 127) (k : Fin 256) :
    k0_pay3 b (ix3 p q k) = truncf .bf16 b bitsLt_bf16_f32 (ix4 0 p ⟨q.val, by omega⟩ k) := by
  rw [← pay2_at]
  pointwise [k0_pay3]
theorem pay4_at (b : Vec F S1x16x128x256 .f32) (p : Fin 16) (q : Fin 128) (k : Fin 256) :
    k0_pay4 b (ix3 p q k) = truncf .bf16 b bitsLt_bf16_f32 (ix4 0 p q k) := by
  rw [← pay2_at]
  pointwise [k0_pay4]
theorem pay5_at (b : Vec F S1x16x128x256 .f32) (p : Fin 16) (q : Fin 127) (k : Fin 256) :
    k0_pay5 b (ix3 p q k) = truncf .bf16 b bitsLt_bf16_f32 (ix4 0 p ⟨1 + q.val, by omega⟩ k) := by
  rw [← pay2_at]
  pointwise [k0_pay5]

/-- The zero the border is filled with. -/
def zero16 : F .bf16 := Scalar.ofBits .bf16 0x0000#16

/-! ## The image the scratch is meant to hold -/

/-- The input cast to bf16 with a border of zeros, at row `r`, column `w` of the padded image and channel `k`. -/
def padAt (xa : S1x128x128x256.Idx → F .f32) (r w k : ℕ) : F .bf16 :=
  if h : (1 ≤ r ∧ r ≤ 128) ∧ (1 ≤ w ∧ w ≤ 128) ∧ k < 256 then
    truncf .bf16 xa bitsLt_bf16_f32 (ix4 0 ⟨r - 1, by omega⟩ ⟨w - 1, by omega⟩ ⟨k, h.2.2⟩)
  else zero16

/-- The padded image three times over: channel `256 s + k` of column `w` is channel `k` of padded column `w + s`. -/
def image (xa : S1x128x128x256.Idx → F .f32) : S130x128x768.Idx → F .bf16 := fun y =>
  padAt xa (y 0).val ((y 1).val + (y 2).val / 256) ((y 2).val % 256)

/-- The elements of the scratch that hold the image once the first `n` row blocks are copied: the border rows, the rows
    copied, and the border columns of the two shifted copies. -/
def done (n : ℕ) (y : S130x128x768.Idx) : Prop :=
  ((y 0).val = 129 ∨ (y 0).val ≤ 16 * n) ∨ ((y 1).val = 0 ∧ (y 2).val < 256) ∨ ((y 1).val = 127 ∧ 512 ≤ (y 2).val)

theorem padAt_border (xa : S1x128x128x256.Idx → F .f32) (r w k : ℕ) (h : r = 0 ∨ r = 129 ∨ w = 0 ∨ w = 129) :
    padAt xa r w k = zero16 := dif_neg (by omega)

theorem coords (y : S130x128x768.Idx) : (y 0).val < 130 ∧ (y 1).val < 128 ∧ (y 2).val < 768 := ⟨(y 0).isLt, (y 1).isLt, (y 2).isLt⟩

/-- The prepared scratch holds the image's border. -/
theorem prep_done (xa : S1x128x128x256.Idx → F .f32) (x : S130x128x768.Idx → F .bf16) (y : S130x128x768.Idx) (hy : done 0 y) :
    prep x y = image xa y := by
  have := coords y
  unfold prep image
  unfold done at hy
  rw [padAt_border xa _ _ _ (by omega)]
  by_cases hC : (y 1).val = 127 ∧ 512 ≤ (y 2).val
  · exact put3_in _ _ y ⟨(y 0).val, by omega⟩ ⟨0, by omega⟩ ⟨(y 2).val - 512, by omega⟩ (by simp) (by simp; omega) (by simp; omega)
  refine (put3_out _ _ y (by omega)).trans ?_
  by_cases hB : (y 1).val = 0 ∧ (y 2).val < 256
  · exact put3_in _ _ y ⟨(y 0).val, by omega⟩ ⟨0, by omega⟩ ⟨(y 2).val, by omega⟩ (by simp) (by simp; omega) (by simp)
  refine (put3_out _ _ y (by omega)).trans ?_
  by_cases hA : (y 0).val = 129
  · exact put3_in _ _ y ⟨0, by omega⟩ ⟨(y 1).val, by omega⟩ ⟨(y 2).val, by omega⟩ (by simp; omega) (by simp) (by simp)
  refine (put3_out _ _ y (by omega)).trans ?_
  exact put3_in _ _ y ⟨0, by omega⟩ ⟨(y 1).val, by omega⟩ ⟨(y 2).val, by omega⟩ (by simp; omega) (by simp) (by simp)

/-- Copying row block `n` of the input. -/
theorem conv_done (xa : S1x128x128x256.Idx → F .f32) (n : ℕ) (hn : n < 8) (b : Vec F S1x16x128x256 .f32)
    (hb : ∀ (p : Fin 16) (q : Fin 128) (k : Fin 256), b (ix4 0 p q k) = xa (ix4 0 ⟨16 * n + p.val, by omega⟩ q k))
    (x : S130x128x768.Idx → F .bf16) (hx : ∀ y, done n y → x y = image xa y) (y : S130x128x768.Idx) (hy : done (n + 1) y) :
    conv n b x y = image xa y := by
  have hc := coords y
  have hcast : ∀ (p : Fin 16) (q : Fin 128) (k : Fin 256), truncf .bf16 b bitsLt_bf16_f32 (ix4 0 p q k)
      = padAt xa (16 * n + 1 + p.val) (q.val + 1) k.val := by
    intro p q k
    unfold padAt
    rw [dif_pos (by omega)]
    have e := hb p q k
    have e' : (⟨16 * n + 1 + p.val - 1, by omega⟩ : Fin 128) = ⟨16 * n + p.val, by omega⟩ := Fin.ext (by show 16 * n + 1 + p.val - 1 = 16 * n + p.val; omega)
    rw [e']
    pointwise [e]
    rfl
  unfold conv
  by_cases hr : 16 * n + 1 ≤ (y 0).val ∧ (y 0).val < 16 * n + 17
  swap
  · refine ((put3_out _ _ y (by omega)).trans ((put3_out _ _ y (by omega)).trans (put3_out _ _ y (by omega)))).trans (hx y ?_)
    unfold done at hy ⊢
    omega
  unfold image
  by_cases hC : (y 1).val < 127 ∧ 512 ≤ (y 2).val
  · refine (put3_in _ _ y ⟨(y 0).val - (16 * n + 1), by omega⟩ ⟨(y 1).val, by omega⟩ ⟨(y 2).val - 512, by omega⟩
      (by simp; omega) (by simp) (by simp; omega)).trans ?_
    rw [pay5_at, hcast]
    congr 1 <;> simp <;> omega
  refine (put3_out _ _ y (by omega)).trans ?_
  by_cases hB : 256 ≤ (y 2).val ∧ (y 2).val < 512
  · refine (put3_in _ _ y ⟨(y 0).val - (16 * n + 1), by omega⟩ ⟨(y 1).val, by omega⟩ ⟨(y 2).val - 256, by omega⟩
      (by simp; omega) (by simp) (by simp; omega)).trans ?_
    rw [pay4_at, hcast]
    congr 1 <;> simp <;> omega
  refine (put3_out _ _ y (by omega)).trans ?_
  by_cases hA : 1 ≤ (y 1).val ∧ (y 2).val < 256
  · refine (put3_in _ _ y ⟨(y 0).val - (16 * n + 1), by omega⟩ ⟨(y 1).val - 1, by omega⟩ ⟨(y 2).val, by omega⟩
      (by simp; omega) (by simp; omega) (by simp)).trans ?_
    rw [pay3_at, hcast]
    congr 1 <;> simp <;> omega
  refine (put3_out _ _ y (by omega)).trans (hx y ?_)
  unfold done
  omega

end Cert.KernelIdeal.Hand
-- ==== Proof.Block.lean ====
/-
What the body needs of the memory it keeps: which of its three branches run at a point, that a row block reads only the part
of the image scratch already built, and that the stacked head weights do not depend on what their buffer held.
-/
module

public import proofs.«01_k».proof.Proof.Body
public import proofs.«01_k».proof.Proof.Image

@[expose] public section

set_option maxRecDepth 16384

noncomputable section

namespace Cert.KernelIdeal.Hand

open Idealize.ShloMosaic Idealize.ShloMosaic.TcCoe Idealize.ShloMosaic.VecWindow Cert.KernelIdeal.Gen

variable {F : FTy → Type} [FloatOps F]

/-! ## The branches -/

theorem coord_eq : ∀ t : Fin grid0.N, (grid0.coords t 0).val = t.val := by decide +kernel
/-- The weights are prepared at the first point only. -/
theorem cond1_iff : ∀ i : grid0.Coords, Scalar.cmpi .ne (Scalar.extui (Scalar.cmpi .eq (BitVec.ofNat 32 (i 0).val) 0#32) : BitVec 32) 0#32 = 1#1
    ↔ (i 0).val = 0 := by decide +kernel
/-- Image rows are written at the first eight points. -/
theorem cond2_iff : ∀ i : grid0.Coords, k0_cond2 i = 1#1 ↔ (i 0).val < 8 := by decide +kernel
/-- A row block is computed at every point but the first. -/
theorem cond3_iff : ∀ i : grid0.Coords, k0_cond3 i = 1#1 ↔ 1 ≤ (i 0).val := by decide +kernel

/-! ## The stacked head weights -/

/-- The 6 score columns and the 12 box columns together are all 18, so nothing of the old contents is left. -/
theorem heads_eq (w2 : Vec F S1x1x512x6 .f32) (w3 : Vec F S1x1x512x12 .f32) (x x' : S512x18.Idx → F .bf16) :
    heads w2 w3 x = heads w2 w3 x' := by
  funext y
  have h1 : (y 1).val < 18 := (y 1).isLt
  have h0 : (y 0).val < 512 := (y 0).isLt
  unfold heads put
  split
  · rfl
  · rename_i hb
    split
    · rfl
    · rename_i ha
      exfalso
      by_cases hc : (y 1).val < 6
      · refine ha fun a => ?_
        fin_cases a
        · show 0 ≤ (y 0).val ∧ (y 0).val < 0 + 512; omega
        · show 0 ≤ (y 1).val ∧ (y 1).val < 0 + 6; omega
      · refine hb fun a => ?_
        fin_cases a
        · show 0 ≤ (y 0).val ∧ (y 0).val < 0 + 512; omega
        · show 6 ≤ (y 1).val ∧ (y 1).val < 6 + 12; omega

/-! ## A row block reads finished rows -/

/-- The first row a row block reads of the image scratch, for each of the three kernel rows. -/
theorem off6_row : ∀ (i : grid0.Coords) (r : Fin 3), k0_cond3 i = 1#1 → k0_off6 i (BitVec.ofNat 32 r.val) 0 = 16 * (i 0).val + r.val - 16 := by
  decide +kernel

theorem hidden_image (i : grid0.Coords) (h3 : k0_cond3 i = 1#1) (xa : S1x128x128x256.Idx → F .f32) (x : S130x128x768.Idx → F .bf16)
    (hx : ∀ y, done (min ((i 0).val + 1) 8) y → x y = image xa y) (w1 : S3x768x512.Idx → F .bf16) (b1 : Vec F S512 .f32) :
    hidden i h3 x w1 b1 = hidden i h3 (image xa) w1 b1 := by
  have hi := (cond3_iff i).mp h3
  have hl : (i 0).val < 9 := (i 0).isLt
  have e : ∀ r : Fin 3, window x (k0_off6 i (BitVec.ofNat 32 r.val)) S16x128x768.size (k0_off6_inb i h3 r)
      = window (image xa) (k0_off6 i (BitVec.ofNat 32 r.val)) S16x128x768.size (k0_off6_inb i h3 r) := fun r => by
    funext y
    have hy : (y 0).val < 16 := (y 0).isLt
    refine hx _ (Or.inl ?_)
    have e : (((Rect.unit (s := S130x128x768) (k0_off6 i (BitVec.ofNat 32 r.val)) S16x128x768.size (k0_off6_inb i h3 r)).emb y) 0).val
        = k0_off6 i (BitVec.ofNat 32 r.val) 0 + 1 * (y 0).val := rfl
    have hr := r.isLt
    rw [e, off6_row i r h3]
    omega
  unfold hidden
  have e0 := e 0
  have e1 := e 1
  have e2 := e 2
  simp only [Fin.val_zero, Fin.val_one, Fin.val_two] at e0 e1 e2
  have g : ∀ a a' b b' c c' : Vec F S16x128x768 .bf16, a = a' → b = b' → c = c' → ∀ u v w, k0_pay18 a u b v c w b1 = k0_pay18 a' u b' v c' w b1 := by
    rintro a _ b _ c _ rfl rfl rfl u v w; rfl
  exact g _ _ _ _ _ _ e0 e1 e2 _ _ _

end Cert.KernelIdeal.Hand
-- ==== Proof.Run.lean ====
/-
The run of the kernel over its nine points. Between points the three scratch buffers hold the image built so far, the
convolution weights and the stacked head weights; from them every point but the first computes one row block of both results.
-/
module

public import proofs.«01_k».proof.Proof.Block
public import Idealize.ShloMosaic.Lib.Pipeline.Frame
public import Idealize.ShloMosaic.Lib.Pipeline.FrameBody
public import Idealize.ShloMosaic.Lib.Pipeline.ValueKit.Point

@[expose] public section

set_option maxRecDepth 16384

noncomputable section

namespace Cert.KernelIdeal.Hand

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays and the blocks read from them -/

abbrev argX (c : Dev nD) : S1x128x128x256.Idx → F .f32 := V m c main_arg0
abbrev argW1 (c : Dev nD) : Vec F S3x3x256x512 .f32 := V m c main_arg1
abbrev argB1 (c : Dev nD) : Vec F S512 .f32 := V m c main_arg2
abbrev argW2 (c : Dev nD) : Vec F S1x1x512x6 .f32 := V m c main_arg3
abbrev argB2 (c : Dev nD) : Vec F S6 .f32 := V m c main_arg4
abbrev argW3 (c : Dev nD) : Vec F S1x1x512x12 .f32 := V m c main_arg5
abbrev argB3 (c : Dev nD) : Vec F S12 .f32 := V m c main_arg6

/-- The block indices of the nine windows at a point. -/
theorem index_eq : ∀ t : Fin grid0.N, win0_0.index t = ![0, min t.val 7, 0, 0] ∧ win0_1.index t = ![0, 0, 0, 0] ∧ win0_2.index t = ![0, 0, 0, 0]
    ∧ win0_3.index t = ![0, 0, 0, 0] ∧ win0_4.index t = ![0] ∧ win0_5.index t = ![0] ∧ win0_6.index t = ![0]
    ∧ win0_7.index t = ![t.val - 1, 0] ∧ win0_8.index t = ![t.val - 1, 0] := by decide +kernel

theorem blk1 (c : Dev nD) (t : Fin cfg0.N) : iblk m c 1 t = argW1 m c := by
  funext y; blk_ext [iblk, V, index_eq t]
theorem blk2 (c : Dev nD) (t : Fin cfg0.N) : iblk m c 2 t = argW2 m c := by
  funext y; blk_ext [iblk, V, index_eq t]
theorem blk3 (c : Dev nD) (t : Fin cfg0.N) : iblk m c 3 t = argW3 m c := by
  funext y; blk_ext [iblk, V, index_eq t]
theorem blk4 (c : Dev nD) (t : Fin cfg0.N) : iblk m c 4 t = argB1 m c := by
  funext y; blk_ext [iblk, V, index_eq t]
theorem blk5 (c : Dev nD) (t : Fin cfg0.N) : iblk m c 5 t = argB2 m c := by
  funext y; blk_ext [iblk, V, index_eq t]
theorem blk6 (c : Dev nD) (t : Fin cfg0.N) : iblk m c 6 t = argB3 m c := by
  funext y; blk_ext [iblk, V, index_eq t]
/-- The image window at point `t` is the sixteen image rows from row `16 t`. -/
theorem blk0 (c : Dev nD) (t : Fin cfg0.N) (ht : t.val < 8) (p : Fin 16) (q : Fin 128) (k : Fin 256) :
    (iblk m c 0 t : Vec F S1x16x128x256 .f32) (ix4 0 p q k) = argX m c (ix4 0 ⟨16 * t.val + p.val, by omega⟩ q k) := by
  have h7 : min t.val 7 = t.val := by omega
  blk_ext [iblk, V, index_eq t]

/-! ## What the scratch buffers hold between points -/

/-- The stacked head weights: six score columns, then twelve box columns. -/
def stacked (w2 : Vec F S1x1x512x6 .f32) (w3 : Vec F S1x1x512x12 .f32) : S512x18.Idx → F .bf16 := heads w2 w3 fun _ => zero16

/-- After `n` points, `n ≥ 1`: the image is built up to row `16 n`, both weight buffers are filled. -/
def Ready (c : Dev nD) (n : ℕ) (x10 : S130x128x768.Idx → F .bf16) (x11 : S3x768x512.Idx → F .bf16) (x12 : S512x18.Idx → F .bf16) : Prop :=
  1 ≤ n → (∀ y, done (min n 8) y → x10 y = image (argX m c) y) ∧ x11 = k0_pay16 (argW1 m c) ∧ x12 = stacked (argW2 m c) (argW3 m c)

/-- What the body keeps between points: the three scratch buffers at `Ready` contents, and the random number register. -/
def kept (c : Dev nD) (n : ℕ) : sProp 𝕄 :=
  iprop(∃ x10 x11 x12, owns (c : Thread nD τ) (Memref.whole cc0_scratch0) fullShare x10 ∗ owns (c : Thread nD τ) (Memref.whole cc0_scratch1) fullShare x11
    ∗ owns (c : Thread nD τ) (Memref.whole cc0_scratch2) fullShare x12 ∗ (∃ r, prngReg c r) ∗ ⌜Ready m c n x10 x11 x12⌝)

/-! ## What a point leaves in the result windows -/

/-- The hidden activations of the row block a point computes. -/
def acts (c : Dev nD) (i : grid0.Coords) (h3 : k0_cond3 i = 1#1) : FVec F S2048x512 .f32 :=
  hidden i h3 (image (argX m c)) (k0_pay16 (argW1 m c)) (argB1 m c)
/-- The scores of that row block. -/
def scoreBlock (c : Dev nD) (i : grid0.Coords) : S2048x6.Idx → F .f32 :=
  if h3 : k0_cond3 i = 1#1 then k0_pay7 (acts m c i h3) (stacked (argW2 m c) (argW3 m c)) (argB2 m c) else fun _ => Scalar.ofBits .f32 0#32
/-- Its boxes. -/
def boxBlock (c : Dev nD) (i : grid0.Coords) : S6144x4.Idx → F .f32 :=
  if h3 : k0_cond3 i = 1#1 then boxes (acts m c i h3) (stacked (argW2 m c) (argW3 m c)) (argB3 m c) else fun _ => Scalar.ofBits .f32 0#32

def dats (_ : Fin 1) (c : Dev nD) : Dat τ (Elt F) Unit ℕ (UR sig nD τ) ℕ cfg0 c where
  A w := V m c (Pipeline.arrRef spec0 w)
  after w t := match w with
    | ⟨7, _⟩ => scoreBlock m c (grid0.coords t)
    | ⟨8, _⟩ => boxBlock m c (grid0.coords t)
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨_ + 9, h⟩ => absurd h (Nat.not_lt.2 (Nat.le_add_left _ _))
  Φ n := kept m c n.val
  q _ := fullShare
  owed _ := 0

/-! ## One point -/

/-- The image built so far, one point on. -/
theorem ready_succ (c : Dev nD) (t : Fin cfg0.N) (ht : t.val < 8) (x10 : S130x128x768.Idx → F .bf16)
    (hx : ∀ y, done t.val y → x10 y = image (argX m c) y) (y : S130x128x768.Idx) (hy : done (t.val + 1) y) :
    conv t.val (iblk m c 0 t) x10 y = image (argX m c) y :=
  conv_done (argX m c) t.val ht (iblk m c 0 t) (blk0 m c t ht) x10 hx y hy

/-- What the loop hands the body at a point. -/
def bodyPre (c : Dev nD) (t : Fin cfg0.N) : sProp 𝕄 :=
  iprop(kept m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- What the body hands back. -/
def bodyPost (c : Dev nD) (t : Fin cfg0.N) : sProp 𝕄 :=
  iprop(kept m c (t.val + 1) ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ (dats m 0 c).leavesExact 7 t ∗ (dats m 0 c).leavesExact 8 t)

theorem owes_succ (c : Dev nD) (t : Fin cfg0.N) : (dats m 0 c).owesAt () t.succ = (dats m 0 c).owesAt () t.castSucc := rfl

/-- No result block is written back at the first point. -/
theorem flush7_first : ∀ t : Fin grid0.N, ¬ k0_cond3 (grid0.coords t) = 1#1 → win0_7.flush t = false := by decide +kernel
theorem flush8_first : ∀ t : Fin grid0.N, ¬ k0_cond3 (grid0.coords t) = 1#1 → win0_8.flush t = false := by decide +kernel

theorem idle_first (t : Fin cfg0.N) (h3 : ¬ k0_cond3 (grid0.coords t) = 1#1) :
    cfg0.idle 7 (cfg0.grid.coords t) = true ∧ cfg0.idle 8 (cfg0.grid.coords t) = true := by
  have h : (!(k0_cond3 (grid0.coords t) == 1#1)) = true := by simpa using h3
  exact ⟨h, h⟩
theorem busy_later (t : Fin cfg0.N) (h3 : k0_cond3 (grid0.coords t) = 1#1) :
    cfg0.idle 7 (cfg0.grid.coords t) = false ∧ cfg0.idle 8 (cfg0.grid.coords t) = false := by
  have h : (!(k0_cond3 (grid0.coords t) == 1#1)) = false := by simpa using h3
  exact ⟨h, h⟩

theorem leaves7_first (c : Dev nD) (t : Fin cfg0.N) (h3 : ¬ k0_cond3 (grid0.coords t) = 1#1) : (dats m 0 c).leavesExact 7 t
    = iprop(∃ d, owns (c : Thread nD τ) (win0_7.stage (cfg0.slots t 7)) fullShare ((dats m 0 c).before 7 t d)) :=
  (dats m 0 c).leavesExact_idle 7 t (idle_first t h3).1 (flush7_first t h3)
theorem leaves8_first (c : Dev nD) (t : Fin cfg0.N) (h3 : ¬ k0_cond3 (grid0.coords t) = 1#1) : (dats m 0 c).leavesExact 8 t
    = iprop(∃ d, owns (c : Thread nD τ) (win0_8.stage (cfg0.slots t 8)) fullShare ((dats m 0 c).before 8 t d)) :=
  (dats m 0 c).leavesExact_idle 8 t (idle_first t h3).2 (flush8_first t h3)
theorem leaves7_later (c : Dev nD) (t : Fin cfg0.N) (h3 : k0_cond3 (grid0.coords t) = 1#1) : (dats m 0 c).leavesExact 7 t
    = owns (c : Thread nD τ) (win0_7.stage (cfg0.slots t 7)) fullShare
        (k0_pay7 (acts m c (grid0.coords t) h3) (stacked (argW2 m c) (argW3 m c)) (argB2 m c)) := by
  have e : scoreBlock m c (grid0.coords t) = k0_pay7 (acts m c (grid0.coords t) h3) (stacked (argW2 m c) (argW3 m c)) (argB2 m c) := dif_pos h3
  rw [← e]; unfold Dat.leavesExact; rw [(busy_later t h3).1]; rfl
theorem leaves8_later (c : Dev nD) (t : Fin cfg0.N) (h3 : k0_cond3 (grid0.coords t) = 1#1) : (dats m 0 c).leavesExact 8 t
    = owns (c : Thread nD τ) (win0_8.stage (cfg0.slots t 8)) fullShare
        (boxes (acts m c (grid0.coords t) h3) (stacked (argW2 m c) (argW3 m c)) (argB3 m c)) := by
  have e : boxBlock m c (grid0.coords t) = boxes (acts m c (grid0.coords t) h3) (stacked (argW2 m c) (argW3 m c)) (argB3 m c) := dif_pos h3
  rw [← e]; unfold Dat.leavesExact; rw [(busy_later t h3).2]; rfl

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d
theorem before5 (c : Dev nD) (t : Fin cfg0.N) (d) : (dats m 0 c).before 5 t d = iblk m c 5 t := before0_5_of m (dats m 0 c) rfl (fun _ => rfl) t d
theorem before6 (c : Dev nD) (t : Fin cfg0.N) (d) : (dats m 0 c).before 6 t d = iblk m c 6 t := before0_6_of m (dats m 0 c) rfl (fun _ => rfl) t d

/-- The first point: the weights are laid out, the image's margins set and its first sixteen rows written. -/
theorem point_first (c : Dev nD) (t : Fin cfg0.N) (h0 : t.val = 0) :
    bodyPre m c t ⊢ wp frame (wpE (defs₀ (F := F)) Variants.none c none) Set.univ (bodyAt0 t) (fun _ => bodyPost m c t) := by
  have hc := coord_eq t
  have h1 := (cond1_iff (grid0.coords t)).mpr (by omega)
  have h2 := (cond2_iff (grid0.coords t)).mpr (by omega)
  have h3 : ¬ k0_cond3 (grid0.coords t) = 1#1 := fun h => by have := (cond3_iff (grid0.coords t)).mp h; omega
  unfold bodyPre bodyPost bodyAt0 kept
  rw [leaves7_first m c t h3, leaves8_first m c t h3, owes_succ]
  simp only [before0, before1, before2, before3, before4, before5, before6]
  iintro ⟨⟨%x10, %x11, %x12, HA, HB, HC, Hr, %hR⟩, HO, ⟨%d0, H0⟩, ⟨%d1, H1⟩, ⟨%d2, H2⟩, ⟨%d3, H3⟩, ⟨%d4, H4⟩, ⟨%d5, H5⟩, ⟨%d6, H6⟩, H7, H8⟩
  iapply (run_first (F := F) c (grid0.coords t) _ _ _ _ _ _ _ _ _ _ _ _ _ _ _ _ _ _ _ _ _ _ _ _ (iblk m c 0 t) (iblk m c 1 t) (iblk m c 2 t)
    (iblk m c 3 t) x10 x11 x12 h1 h2 h3 _)
  isplitl [H0]; · iexact H0
  isplitl [H1]; · iexact H1
  isplitl [H2]; · iexact H2
  isplitl [H3]; · iexact H3
  isplitl [HA]; · iexact HA
  isplitl [HB]; · iexact HB
  isplitl [HC]; · iexact HC
  iintro ⟨H0, H1, H2, H3, HA, HB, HC⟩
  isplitl [HA HB HC Hr]
  · iexists _, _, _
    isplitl [HA]; · iexact HA
    isplitl [HB]; · iexact HB
    isplitl [HC]; · iexact HC
    isplitl [Hr]; · iexact Hr
    ipureintro
    intro _
    refine ⟨fun y hy => ?_, ?_, ?_⟩
    · rw [hc]
      refine ready_succ m c t (by omega) _ (fun y hy => prep_done (argX m c) x10 y (by rw [h0] at hy; exact hy)) y ?_
      rwa [show min (t.val + 1) 8 = t.val + 1 by omega] at hy
    · rw [blk1]
    · rw [blk2, blk3]; exact heads_eq _ _ _ _
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The stored scratch contents a later point finds, and what its row block then is. -/
theorem acts_eq (c : Dev nD) (t : Fin cfg0.N) (h3 : k0_cond3 (grid0.coords t) = 1#1) (x10 : S130x128x768.Idx → F .bf16)
    (hx : ∀ y, done (min (t.val + 1) 8) y → x10 y = image (argX m c) y) :
    hidden (grid0.coords t) h3 x10 (k0_pay16 (argW1 m c)) (argB1 m c) = acts m c (grid0.coords t) h3 :=
  hidden_image (grid0.coords t) h3 (argX m c) x10 (by rw [coord_eq t]; exact hx) _ _

/-- A middle point: sixteen more image rows, then a row block of both results. -/
theorem point_middle (c : Dev nD) (t : Fin cfg0.N) (h0 : 1 ≤ t.val) (h8 : t.val < 8) :
    bodyPre m c t ⊢ wp frame (wpE (defs₀ (F := F)) Variants.none c none) Set.univ (bodyAt0 t) (fun _ => bodyPost m c t) := by
  have hc := coord_eq t
  have h1 := fun h => (show ¬ (grid0.coords t 0).val = 0 by omega) ((cond1_iff (grid0.coords t)).mp h)
  have h2 := (cond2_iff (grid0.coords t)).mpr (by omega)
  have h3 := (cond3_iff (grid0.coords t)).mpr (by omega)
  unfold bodyPre bodyPost bodyAt0 kept
  rw [leaves7_later m c t h3, leaves8_later m c t h3, owes_succ]
  simp only [before0, before1, before2, before3, before4, before5, before6]
  iintro ⟨⟨%x10, %x11, %x12, HA, HB, HC, Hr, %hR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hx, rfl, rfl⟩ := hR h0
  have hx' : ∀ y, done (t.val + 1) y → conv (grid0.coords t 0).val (iblk m c 0 t) x10 y = image (argX m c) y := by
    rw [hc]; exact ready_succ m c t h8 x10 (by rwa [show min t.val 8 = t.val by omega] at hx)
  have ha := acts_eq m c t h3 _ (by rw [show min (t.val + 1) 8 = t.val + 1 by omega]; exact hx')
  iapply (run_middle (F := F) c (grid0.coords t) _ _ _ _ _ _ _ _ _ _ _ _ _ _ _ _ _ _ _ _ _ _ _ _ (iblk m c 0 t) (iblk m c 4 t) (iblk m c 5 t)
    (iblk m c 6 t) _ _ x10 _ _ h1 h2 h3 _)
  isplitl [H0]; · iexact H0
  isplitl [H4]; · iexact H4
  isplitl [H5]; · iexact H5
  isplitl [H6]; · iexact H6
  isplitl [H7]; · iexact H7
  isplitl [H8]; · iexact H8
  isplitl [HA]; · iexact HA
  isplitl [HB]; · iexact HB
  isplitl [HC]; · iexact HC
  rw [blk4, ha, blk5, blk6]
  iintro ⟨H0, H4, H5, H6, H7, H8, HA, HB, HC⟩
  isplitl [HA HB HC Hr]
  · iexists _, _, _
    isplitl [HA]; · iexact HA
    isplitl [HB]; · iexact HB
    isplitl [HC]; · iexact HC
    isplitl [Hr]; · iexact Hr
    ipureintro
    intro _
    refine ⟨fun y hy => hx' y ?_, rfl, rfl⟩
    rwa [show min (t.val + 1) 8 = t.val + 1 by omega] at hy
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The last point: the image is complete, only the row block is left. -/
theorem point_last (c : Dev nD) (t : Fin cfg0.N) (h8 : 8 ≤ t.val) :
    bodyPre m c t ⊢ wp frame (wpE (defs₀ (F := F)) Variants.none c none) Set.univ (bodyAt0 t) (fun _ => bodyPost m c t) := by
  have hc := coord_eq t
  have h1 := fun h => (show ¬ (grid0.coords t 0).val = 0 by omega) ((cond1_iff (grid0.coords t)).mp h)
  have h2 := fun h => (show ¬ (grid0.coords t 0).val < 8 by omega) ((cond2_iff (grid0.coords t)).mp h)
  have h3 := (cond3_iff (grid0.coords t)).mpr (by omega)
  unfold bodyPre bodyPost bodyAt0 kept
  rw [leaves7_later m c t h3, leaves8_later m c t h3, owes_succ]
  simp only [before0, before1, before2, before3, before4, before5, before6]
  iintro ⟨⟨%x10, %x11, %x12, HA, HB, HC, Hr, %hR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hx, rfl, rfl⟩ := hR (by omega)
  rw [show min t.val 8 = min (t.val + 1) 8 by omega] at hx
  have ha := acts_eq m c t h3 x10 hx
  iapply (run_last (F := F) c (grid0.coords t) _ _ _ _ _ _ _ _ _ _ _ _ _ _ _ _ _ _ _ _ _ _ _ _ (iblk m c 4 t) (iblk m c 5 t)
    (iblk m c 6 t) _ _ x10 _ _ h1 h2 h3 _)
  isplitl [H4]; · iexact H4
  isplitl [H5]; · iexact H5
  isplitl [H6]; · iexact H6
  isplitl [H7]; · iexact H7
  isplitl [H8]; · iexact H8
  isplitl [HA]; · iexact HA
  isplitl [HB]; · iexact HB
  isplitl [HC]; · iexact HC
  rw [blk4, ha, blk5, blk6]
  iintro ⟨H4, H5, H6, H7, H8, HA, HB, HC⟩
  isplitl [HA HB HC Hr]
  · iexists _, _, _
    isplitl [HA]; · iexact HA
    isplitl [HB]; · iexact HB
    isplitl [HC]; · iexact HC
    isplitl [Hr]; · iexact Hr
    ipureintro
    exact fun _ => ⟨hx, rfl, rfl⟩
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  rcases Nat.eq_zero_or_pos t.val with h0 | h0
  · exact point_first m c t h0
  · rcases Nat.lt_or_ge t.val 8 with h8 | h8
    · exact point_middle m c t h0 h8
    · exact point_last m c t h8

/-! ## The launch -/

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch buffers hold anything. -/
theorem enter (c : Dev nD) : (Pipeline.ΦA spec0 c : sProp 𝕄) ⊢ (dats (F := F) m 0 c).Φ 0 := by
  show (Pipeline.ΦA spec0 c : sProp 𝕄) ⊢ kept m c 0
  unfold Pipeline.ΦA kept
  rw [scopedRest0_eq]
  iintro ⟨⟨⟨%f0, HA⟩, ⟨%f1, HB⟩, ⟨%f2, HC⟩⟩, Hr⟩
  iexists f0, f1, f2
  rw [owns_whole, owns_whole, owns_whole]
  isplitl [HA]; · iexact HA
  isplitl [HB]; · iexact HB
  isplitl [HC]; · iexact HC
  isplitl [Hr]; · iexact Hr
  ipureintro
  exact fun h => absurd h (by omega)

/-- After the last point what they hold is forgotten. -/
theorem leave (c : Dev nD) : (dats (F := F) m 0 c).Φ (Fin.last cfg0.N) ⊢ (Pipeline.ΦA spec0 c : sProp 𝕄) := by
  show kept m c (Fin.last cfg0.N).val ⊢ (Pipeline.ΦA spec0 c : sProp 𝕄)
  unfold Pipeline.ΦA kept
  rw [scopedRest0_eq]
  simp only [owns_whole]
  iintro ⟨%f0, %f1, %f2, HA, HB, HC, Hr, -⟩
  isplitl [HA HB HC]
  · isplitl [HA]; · iexists f0; iexact HA
    isplitl [HB]; · iexists f1; iexact HB
    iexists f2; iexact HC
  iexact Hr

-- the launch rule's implicit arguments are found by unifying its conclusion with this statement, which takes unfolding
-- definitions in a metavariable's type
set_option backward.isDefEq.respectTransparency.types false in
/-- From any memory with zero counters the kernel runs to its end: every staged array then holds what the nine points leave in
    it, and every semaphore counter is zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := enter m) (hout := leave m)

end Cert.KernelIdeal.Hand
-- ==== Proof.Values.lean ====
/-
One row block over the reals, element by element: what the printed payloads compute at an index.
-/
module

public import proofs.«01_k».proof.Proof.Image
public import Idealize.ShloMosaic.Lib.Pointwise

@[expose] public section

set_option maxRecDepth 16384

noncomputable section

namespace Cert.KernelIdeal.Hand

open Idealize.ShloMosaic Idealize.ShloMosaic.TcCoe Idealize.ShloMosaic.VecWindow Cert.KernelIdeal Cert.KernelIdeal.Gen

theorem pay18_at (v14 v23 v32 : Vec Ideal S16x128x768 .bf16) (v16 v25 v34 : Vec Ideal S1x768x512 .bf16) (v38 : Vec Ideal S512 .f32)
    (p : Fin 2048) (k : Fin 512) : k0_pay18 v14 v16 v23 v25 v32 v34 v38 (ix2 p k)
      = (∑ ch : Fin 768, v14 (ix3 ⟨p.val / 128, by omega⟩ ⟨p.val % 128, by omega⟩ ch) * v16 (ix3 0 ch k))
        + (∑ ch : Fin 768, v23 (ix3 ⟨p.val / 128, by omega⟩ ⟨p.val % 128, by omega⟩ ch) * v25 (ix3 0 ch k))
        + (∑ ch : Fin 768, v32 (ix3 ⟨p.val / 128, by omega⟩ ⟨p.val % 128, by omega⟩ ch) * v34 (ix3 0 ch k)) + v38 (ix1 k) := by
  pointwise [k0_pay18]

theorem pay16_at (w1 : Vec Ideal S3x3x256x512 .f32) (r : Fin 3) (ch : Fin 768) (k : Fin 512) :
    (k0_pay16 w1 (ix3 r ch k) : EReal) = w1 (ix4 r ⟨ch.val / 256, by omega⟩ ⟨ch.val % 256, by omega⟩ k) := by
  pointwise [k0_pay16]

theorem pay17_at (w2 : Vec Ideal S1x1x512x6 .f32) (k : Fin 512) (s : Fin 6) : (k0_pay17 w2 (ix2 k s) : EReal) = w2 (ix4 0 0 k s) := by
  pointwise [k0_pay17]
theorem pay1_at (w3 : Vec Ideal S1x1x512x12 .f32) (k : Fin 512) (s : Fin 12) : (k0_pay1 w3 (ix2 k s) : EReal) = w3 (ix4 0 0 k s) := by
  pointwise [k0_pay1]

theorem pay6_at (v : FVec Ideal S2048x512 .f32) (w : Vec Ideal S512x18 .bf16) (p : Fin 2048) (s : Fin 18) :
    k0_pay6 v w (ix2 p s) = ∑ k : Fin 512, max (v (ix2 p k)) 0 * w (ix2 k s) := by
  pointwise [k0_pay6]

theorem pay7_at (v : FVec Ideal S2048x512 .f32) (w : Vec Ideal S512x18 .bf16) (b : Vec Ideal S6 .f32) (p : Fin 2048) (s : Fin 6) :
    k0_pay7 v w b (ix2 p s) = k0_pay6 v w (ix2 p ⟨s.val, by omega⟩) + b (ix1 s) := by
  pointwise [k0_pay7]
theorem pay8_at (v : FVec Ideal S2048x512 .f32) (w : Vec Ideal S512x18 .bf16) (b : Vec Ideal S4 .f32) (p : Fin 2048) (s : Fin 4) :
    k0_pay8 v w b (ix2 p s) = k0_pay6 v w (ix2 p ⟨6 + s.val, by omega⟩) + b (ix1 s) := by
  pointwise [k0_pay8]
theorem pay9_at (v : FVec Ideal S2048x512 .f32) (w : Vec Ideal S512x18 .bf16) (b : Vec Ideal S4 .f32) (p : Fin 2048) (s : Fin 4) :
    k0_pay9 v w b (ix2 p s) = k0_pay6 v w (ix2 p ⟨10 + s.val, by omega⟩) + b (ix1 s) := by
  pointwise [k0_pay9]
theorem pay10_at (v : FVec Ideal S2048x512 .f32) (w : Vec Ideal S512x18 .bf16) (b : Vec Ideal S4 .f32) (p : Fin 2048) (s : Fin 4) :
    k0_pay10 v w b (ix2 p s) = k0_pay6 v w (ix2 p ⟨14 + s.val, by omega⟩) + b (ix1 s) := by
  pointwise [k0_pay10]

end Cert.KernelIdeal.Hand
-- ==== Proof.Spec.lean ====
/-
The mathematics of the two results, over the reals extended by the infinities: a 3 by 3 convolution with a border of zeros and a
bias, the positive part, and two products with the weights of the score and the box head, each with its bias.
-/
module

public import proofs.«01_k».proof.KernelIdeal
public import Idealize.ShloMosaic.Lib.Pointwise

@[expose] public section

noncomputable section

namespace Cert.Spec

open Idealize.ShloMosaic Cert.KernelIdeal

/-- The image inside a border of zeros one pixel wide, at row `r`, column `w` of the bordered image. -/
def pixel (x : Vec Ideal S1x128x128x256 .f32) (r w : ℕ) (c : Fin 256) : EReal :=
  if h : (1 ≤ r ∧ r ≤ 128) ∧ (1 ≤ w ∧ w ≤ 128) then x (ix4 0 ⟨r - 1, by omega⟩ ⟨w - 1, by omega⟩ c) else 0

/-- One of the nine taps of the convolution: a product over the input channels. -/
def tap (x : Vec Ideal S1x128x128x256 .f32) (w1 : Vec Ideal S3x3x256x512 .f32) (h w : ℕ) (k : Fin 512) (a b : Fin 3) : EReal :=
  ∑ c : Fin 256, pixel x (h + a.val) (w + b.val) c * w1 (ix4 a b c k)

/-- The hidden activation of pixel `(h, w)` before the positive part is taken. -/
def conv (x : Vec Ideal S1x128x128x256 .f32) (w1 : Vec Ideal S3x3x256x512 .f32) (b1 : Vec Ideal S512 .f32) (h w : ℕ) (k : Fin 512) : EReal :=
  (∑ a : Fin 3, ∑ b : Fin 3, tap x w1 h w k a b) + b1 (ix1 k)

/-- A product of the positive hidden activations of pixel number `p` with one column of head weights. -/
def head (x : Vec Ideal S1x128x128x256 .f32) (w1 : Vec Ideal S3x3x256x512 .f32) (b1 : Vec Ideal S512 .f32) (p : ℕ) (col : Fin 512 → EReal) : EReal :=
  ∑ k : Fin 512, max (conv x w1 b1 (p / 128) (p % 128) k) 0 * col k

/-- The scores, a row per pixel. -/
def scores (x : Vec Ideal S1x128x128x256 .f32) (w1 : Vec Ideal S3x3x256x512 .f32) (b1 : Vec Ideal S512 .f32) (w2 : Vec Ideal S1x1x512x6 .f32)
    (b2 : Vec Ideal S6 .f32) : Vec Ideal S16384x6 .f32 := fun y =>
  head x w1 b1 (y 0).val (fun k => w2 (ix4 0 0 k (y 1))) + b2 (ix1 (y 1))

/-- The channel of the box head that row `r`, column `s` of the box result shows: three rows a pixel, four channels a row. -/
def channel (r : ℕ) (s : Fin 4) : Fin 12 := ⟨r % 3 * 4 + s.val, by omega⟩

/-- The boxes, three rows per pixel. -/
def bboxes (x : Vec Ideal S1x128x128x256 .f32) (w1 : Vec Ideal S3x3x256x512 .f32) (b1 : Vec Ideal S512 .f32) (w3 : Vec Ideal S1x1x512x12 .f32)
    (b3 : Vec Ideal S12 .f32) : Vec Ideal S49152x4 .f32 := fun y =>
  head x w1 b1 ((y 0).val / 3) (fun k => w3 (ix4 0 0 k (channel (y 0).val (y 1)))) + b3 (ix1 (channel (y 0).val (y 1)))

/-- A sum over 768 positions, taken as three runs of 256. -/
theorem sum_runs (f : Fin 768 → EReal) (g : Fin 3 → Fin 256 → EReal) (h : ∀ j : Fin 768, f j = g ⟨j.val / 256, by omega⟩ ⟨j.val % 256, by omega⟩) :
    ∑ j, f j = ∑ a, ∑ b, g a b := by
  rw [← Fintype.sum_prod_type']
  exact Fintype.sum_equiv (finProdFinEquiv (m := 3) (n := 256)).symm _ _ h

end Cert.Spec
-- ==== Proof.Rows.lean ====
/-
One row block is the mathematics: the hidden activations a point computes from the image scratch are the convolution of the
bordered image, and the two result blocks are rows of the scores and of the boxes.
-/
module

public import proofs.«01_k».proof.Proof.Values
public import proofs.«01_k».proof.Proof.Spec
public import proofs.«01_k».proof.Proof.Block

@[expose] public section

set_option maxRecDepth 16384

noncomputable section

namespace Cert.KernelIdeal.Hand

open Idealize.ShloMosaic Idealize.ShloMosaic.TcCoe Idealize.ShloMosaic.VecWindow Cert.KernelIdeal Cert.KernelIdeal.Gen

/-! ## The image scratch -/

theorem zero16_eq : (zero16 : Ideal .bf16) = (0 : EReal) := by
  unfold zero16; pointwise

theorem padAt_eq (xa : S1x128x128x256.Idx → Ideal .f32) (r w : ℕ) (c : Fin 256) : (padAt xa r w c.val : EReal) = Spec.pixel xa r w c := by
  unfold padAt Spec.pixel
  have hc := c.isLt
  split
  · rename_i h
    rw [dif_pos ⟨h.1, h.2.1⟩]; rfl
  · rename_i h
    rw [dif_neg fun g => h ⟨g.1, g.2, hc⟩]; exact zero16_eq

theorem image_at (xa : S1x128x128x256.Idx → Ideal .f32) (r : Fin 130) (w : Fin 128) (j : Fin 768) :
    (image xa (ix3 r w j) : EReal) = Spec.pixel xa r.val (w.val + j.val / 256) ⟨j.val % 256, by omega⟩ :=
  padAt_eq xa r.val (w.val + j.val / 256) ⟨j.val % 256, by omega⟩

/-- One kernel row of the convolution: three shifted copies side by side, so one product over 768 positions. -/
theorem row_sum (xa : S1x128x128x256.Idx → Ideal .f32) (w1 : Vec Ideal S3x3x256x512 .f32) (h : ℕ) (a : Fin 3) (r : Fin 130) (hr : r.val = h + a.val)
    (w : Fin 128) (k : Fin 512) :
    ∑ j : Fin 768, (image xa (ix3 r w j) * k0_pay16 w1 (ix3 a j k) : EReal) = ∑ b : Fin 3, Spec.tap xa w1 h w.val k a b := by
  unfold Spec.tap
  refine Spec.sum_runs _ (fun b c => Spec.pixel xa (h + a.val) (w.val + b.val) c * w1 (ix4 a b c k)) fun j => ?_
  rw [image_at, pay16_at, hr]

/-! ## The hidden activations of a row block -/

/-- The row of the image scratch that pixel row `p` of a row block meets under kernel row `r`. -/
def row (i : grid0.Coords) (p : Fin 16) (r : Fin 3) : Fin 130 :=
  ⟨16 * ((i 0).val - 1) + p.val + r.val, by have h : (i 0).val < 9 := (i 0).isLt; omega⟩

theorem window_image (i : grid0.Coords) (h3 : k0_cond3 i = 1#1) (r : Fin 3) (x : S130x128x768.Idx → Ideal .bf16) (p : Fin 16) (w : Fin 128) (j : Fin 768) :
    window x (k0_off6 i (BitVec.ofNat 32 r.val)) S16x128x768.size (k0_off6_inb i h3 r) (ix3 p w j)
      = x (ix3 (row i p r) w j) := by
  have hi := (cond3_iff i).mp h3
  refine congrArg x (funext fun b => Fin.ext ?_)
  fin_cases b
  · show k0_off6 i (BitVec.ofNat 32 r.val) 0 + 1 * p.val = 16 * ((i 0).val - 1) + p.val + r.val
    rw [off6_row i r h3]; omega
  · show k0_off6 i (BitVec.ofNat 32 r.val) 1 + 1 * w.val = w.val
    rw [show k0_off6 i (BitVec.ofNat 32 r.val) 1 = 0 from congrFun (off6_eq i r) 1]; omega
  · show k0_off6 i (BitVec.ofNat 32 r.val) 2 + 1 * j.val = j.val
    rw [show k0_off6 i (BitVec.ofNat 32 r.val) 2 = 0 from congrFun (off6_eq i r) 2]; omega

theorem window_weights (a : Fin 3) (o : Fin 3 → ℕ) (ho : o = ![a.val, 0, 0]) (inb : ∀ b, o b + S1x768x512.size b ≤ S3x768x512.size b)
    (w : S3x768x512.Idx → Ideal .bf16) (j : Fin 768) (k : Fin 512) :
    window w o S1x768x512.size inb (ix3 0 j k) = w (ix3 a j k) := by
  subst ho
  refine congrArg w (funext fun b => Fin.ext ?_)
  fin_cases b
  · show a.val + 1 * 0 = a.val; omega
  · show 0 + 1 * j.val = j.val; omega
  · show 0 + 1 * k.val = k.val; omega

theorem hidden_at (i : grid0.Coords) (h3 : k0_cond3 i = 1#1) (xa : S1x128x128x256.Idx → Ideal .f32) (w1 : Vec Ideal S3x3x256x512 .f32)
    (b1 : Vec Ideal S512 .f32) (p : Fin 2048) (k : Fin 512) :
    (hidden i h3 (image xa) (k0_pay16 w1) b1 (ix2 p k) : EReal)
      = Spec.conv xa w1 b1 (16 * ((i 0).val - 1) + p.val / 128) (p.val % 128) k := by
  have part : ∀ (a : Fin 3) (o : Fin 3 → ℕ) (ho : o = ![a.val, 0, 0]) (inb : ∀ b, o b + S1x768x512.size b ≤ S3x768x512.size b),
      ∑ j : Fin 768, (window (image xa) (k0_off6 i (BitVec.ofNat 32 a.val)) S16x128x768.size (k0_off6_inb i h3 a)
          (ix3 ⟨p.val / 128, by omega⟩ ⟨p.val % 128, by omega⟩ j) * window (k0_pay16 w1) o S1x768x512.size inb (ix3 0 j k) : EReal)
        = ∑ b : Fin 3, Spec.tap xa w1 (16 * ((i 0).val - 1) + p.val / 128) (p.val % 128) k a b := fun a o ho inb => by
    rw [← row_sum xa w1 (16 * ((i 0).val - 1) + p.val / 128) a (row i ⟨p.val / 128, by omega⟩ a) rfl ⟨p.val % 128, by omega⟩ k]
    exact Finset.sum_congr rfl fun j _ =>
      congr (congrArg (fun s t => (s * t : EReal)) (window_image i h3 a _ _ _ _)) (window_weights a o ho inb _ _ _)
  unfold hidden Spec.conv
  rw [pay18_at, Fin.sum_univ_three]
  refine congrArg (· + (b1 (ix1 k) : EReal)) (congr (congrArg (fun s t => (s + t : EReal)) (congr (congrArg (fun s t => (s + t : EReal)) ?_) ?_)) ?_)
  · exact part 0 ![0, 0, 0] rfl _
  · exact part 1 ![1, 0, 0] rfl _
  · exact part 2 ![2, 0, 0] rfl _

/-! ## The stacked head weights -/

theorem heads_score (w2 : Vec Ideal S1x1x512x6 .f32) (w3 : Vec Ideal S1x1x512x12 .f32) (x : S512x18.Idx → Ideal .bf16) (k : Fin 512) (s : Fin 6) :
    (heads w2 w3 x (ix2 k ⟨s.val, by omega⟩) : EReal) = w2 (ix4 0 0 k s) := by
  refine Eq.trans ?_ (pay17_at w2 k s)
  have hn : ¬ ∀ a : Fin 2, ![0, 6] a ≤ ((ix2 k ⟨s.val, by omega⟩ : S512x18.Idx) a).val ∧ ((ix2 k ⟨s.val, by omega⟩ : S512x18.Idx) a).val < ![0, 6] a + S512x12.size a :=
    fun h => by have : 6 ≤ s.val := (h 1).1; omega
  have hp : ∀ a : Fin 2, ![0, 0] a ≤ ((ix2 k ⟨s.val, by omega⟩ : S512x18.Idx) a).val ∧ ((ix2 k ⟨s.val, by omega⟩ : S512x18.Idx) a).val < ![0, 0] a + S512x6.size a := fun a => by
    fin_cases a
    · show 0 ≤ k.val ∧ k.val < 0 + 512; omega
    · show 0 ≤ s.val ∧ s.val < 0 + 6; omega
  refine (dif_neg hn).trans ((dif_pos hp).trans (congrArg (k0_pay17 w2) (funext fun a => Fin.ext ?_)))
  fin_cases a
  · show k.val - 0 = k.val; omega
  · show s.val - 0 = s.val; omega

theorem heads_box (w2 : Vec Ideal S1x1x512x6 .f32) (w3 : Vec Ideal S1x1x512x12 .f32) (x : S512x18.Idx → Ideal .bf16) (k : Fin 512) (s : Fin 12)
    (j : Fin 18) (hj : j.val = 6 + s.val) : (heads w2 w3 x (ix2 k j) : EReal) = w3 (ix4 0 0 k s) := by
  refine Eq.trans ?_ (pay1_at w3 k s)
  have hp : ∀ a : Fin 2, ![0, 6] a ≤ ((ix2 k j : S512x18.Idx) a).val ∧ ((ix2 k j : S512x18.Idx) a).val < ![0, 6] a + S512x12.size a := fun a => by
    fin_cases a
    · show 0 ≤ k.val ∧ k.val < 0 + 512; omega
    · show 6 ≤ j.val ∧ j.val < 6 + 12; omega
  refine (dif_pos hp).trans (congrArg (k0_pay1 w3) (funext fun a => Fin.ext ?_))
  fin_cases a
  · show k.val - 0 = k.val; omega
  · show j.val - 6 = s.val; omega

/-! ## The two result blocks -/

section Blocks

variable (i : grid0.Coords) (h3 : k0_cond3 i = 1#1) (xa : Vec Ideal S1x128x128x256 .f32) (w1 : Vec Ideal S3x3x256x512 .f32) (b1 : Vec Ideal S512 .f32)
  (w2 : Vec Ideal S1x1x512x6 .f32) (b2 : Vec Ideal S6 .f32) (w3 : Vec Ideal S1x1x512x12 .f32) (b3 : Vec Ideal S12 .f32) (z : S512x18.Idx → Ideal .bf16)

/-- The product with the stacked weights, at a column whose weights are `col`: pixel `p` of the block is pixel `2048 j + p` of the
    image, `j` the block's number. -/
theorem pay6_block (p : Fin 2048) (j : Fin 18) (col : Fin 512 → EReal) (hcol : ∀ k, (heads w2 w3 z (ix2 k j) : EReal) = col k) :
    (k0_pay6 (hidden i h3 (image xa) (k0_pay16 w1) b1) (heads w2 w3 z) (ix2 p j) : EReal)
      = Spec.head xa w1 b1 (2048 * ((i 0).val - 1) + p.val) col := by
  rw [pay6_at]
  unfold Spec.head
  refine Finset.sum_congr rfl fun k _ => ?_
  rw [hidden_at, hcol, show (2048 * ((i 0).val - 1) + p.val) / 128 = 16 * ((i 0).val - 1) + p.val / 128 by omega,
    show (2048 * ((i 0).val - 1) + p.val) % 128 = p.val % 128 by omega]

theorem score_block (p : Fin 2048) (s : Fin 6) (y : S16384x6.Idx) (h0 : (y 0).val = 2048 * ((i 0).val - 1) + p.val) (h1 : y 1 = s) :
    k0_pay7 (hidden i h3 (image xa) (k0_pay16 w1) b1) (heads w2 w3 z) b2 (ix2 p s) = Spec.scores xa w1 b1 w2 b2 y := by
  unfold Spec.scores
  rw [pay7_at, pay6_block i h3 xa w1 b1 w2 w3 z p _ _ fun k => heads_score w2 w3 z k s, h0, h1]

theorem window_bias (o : Fin 1 → ℕ) (inb : ∀ a, o a + S4.size a ≤ S12.size a) (s : Fin 4) (ch : Fin 12) (h : ch.val = o 0 + s.val) :
    (window b3 o S4.size inb (ix1 s) : EReal) = b3 (ix1 ch) := by
  refine congrArg b3 (funext fun a => Fin.ext ?_)
  fin_cases a
  show o 0 + 1 * s.val = ch.val; omega

theorem box_block (r : Fin 6144) (s : Fin 4) (y : S49152x4.Idx) (h0 : (y 0).val = 6144 * ((i 0).val - 1) + r.val) (h1 : y 1 = s) :
    boxes (hidden i h3 (image xa) (k0_pay16 w1) b1) (heads w2 w3 z) b3 (ix2 r s) = Spec.bboxes xa w1 b1 w3 b3 y := by
  unfold Spec.bboxes boxes
  rw [h1, show (y 0).val / 3 = 2048 * ((i 0).val - 1) + r.val / 3 by omega]
  have hm : (y 0).val % 3 = r.val % 3 := by omega
  have hch : (Spec.channel (y 0).val s).val = r.val % 3 * 4 + s.val := by unfold Spec.channel; simp only [hm]
  have hr : ((ix2 r s : S6144x4.Idx) 0).val = r.val := rfl
  simp only [hr]
  have lift : ∀ (p p' : Fin 2048), p = p' → ∀ (j : Fin 18) (hj : j.val = 6 + (Spec.channel (y 0).val s).val),
      (k0_pay6 (hidden i h3 (image xa) (k0_pay16 w1) b1) (heads w2 w3 z) (ix2 p j) : EReal)
        = Spec.head xa w1 b1 (2048 * ((i 0).val - 1) + p'.val) (fun k => w3 (ix4 0 0 k (Spec.channel (y 0).val s))) := by
    rintro p _ rfl j hj
    exact pay6_block i h3 xa w1 b1 w2 w3 z p j _ fun k => heads_box w2 w3 z k _ j hj
  have add : ∀ {a a' b b' : EReal}, a = a' → b = b' → a + b = a' + b' := by rintro a _ b _ rfl rfl; rfl
  split
  · rename_i h
    refine (pay8_at _ _ _ _ s).trans (add (lift _ ⟨r.val / 3, by omega⟩ rfl _ ?_) (window_bias b3 _ _ s _ ?_))
    · show 6 + s.val = _; omega
    · show _ = 0 + s.val; omega
  · split
    · rename_i h
      refine (pay9_at _ _ _ _ s).trans (add (lift _ ⟨r.val / 3, by omega⟩ rfl _ ?_) (window_bias b3 _ _ s _ ?_))
      · show 10 + s.val = _; omega
      · show _ = 4 + s.val; omega
    · refine (pay10_at _ _ _ _ s).trans (add (lift _ ⟨r.val / 3, by omega⟩ rfl _ ?_) (window_bias b3 _ _ s _ ?_))
      · show 14 + s.val = _; omega
      · show _ = 8 + s.val; omega

end Blocks

end Cert.KernelIdeal.Hand
-- ==== Proof.Arrays.lean ====
/-
What the two result arrays hold after the run: the row blocks written back at the points after the first tile them, and each
block is its rows of the scores or of the boxes.
-/
module

public import proofs.«01_k».proof.Proof.Run
public import proofs.«01_k».proof.Proof.Rows

@[expose] public section

set_option maxRecDepth 16384

noncomputable section

namespace Cert.KernelIdeal.Hand

open Idealize.ShloMosaic Idealize.ShloMosaic.TcCoe Idealize.ShloMosaic.Tactic Idealize.ShloMosaic.VecWindow
open Idealize.SL Idealize.SL.Sem
open Idealize.ShloMosaic.Pipeline (Dat BodyObligation)
open Cert.KernelIdeal Cert.KernelIdeal.Gen

variable (m : (ℓ : Loc nD τ sig) → Buf (Elt Ideal) ℓ) (ρ : Dev nD → PrngReg)

/-- A result block is written back only at points that compute one. -/
theorem flush7_later : ∀ t : Fin grid0.N, win0_7.flush t = true → k0_cond3 (grid0.coords t) = 1#1 := by decide +kernel
theorem flush8_later : ∀ t : Fin grid0.N, win0_8.flush t = true → k0_cond3 (grid0.coords t) = 1#1 := by decide +kernel

/-- The score array after the run. -/
theorem final_scores (c : Dev nD) : (dats m 0 c).arrAt 7 cfg0.N = Spec.scores (argX m c) (argW1 m c) (argB1 m c) (argW2 m c) (argB2 m c) := by
  refine (dats m 0 c).arrAt_eq_of_covers 7 _ (by decide +kernel) fun t hf y => ?_
  have h3 := flush7_later t hf
  have e : scoreBlock m c (grid0.coords t) = k0_pay7 (acts m c (grid0.coords t) h3) (stacked (argW2 m c) (argW3 m c)) (argB2 m c) := dif_pos h3
  have hy0 : (y 0).val < 2048 := (y 0).isLt
  have hy1 : (y 1).val < 6 := (y 1).isLt
  show scoreBlock m c (grid0.coords t) y = _
  rw [e, show y = ix2 ⟨(y 0).val, hy0⟩ ⟨(y 1).val, hy1⟩ from by funext a; fin_cases a <;> rfl]
  refine score_block (grid0.coords t) h3 (argX m c) (argW1 m c) (argB1 m c) (argW2 m c) (argB2 m c) (argW3 m c) (fun _ => zero16) _ _ _ ?_ ?_
  · rw [coord_eq t]
    blk_simp [index_eq t]
    omega
  · apply Fin.ext
    blk_simp [index_eq t]

/-- The box array after the run. -/
theorem final_boxes (c : Dev nD) : (dats m 0 c).arrAt 8 cfg0.N = Spec.bboxes (argX m c) (argW1 m c) (argB1 m c) (argW3 m c) (argB3 m c) := by
  refine (dats m 0 c).arrAt_eq_of_covers 8 _ (by decide +kernel) fun t hf y => ?_
  have h3 := flush8_later t hf
  have e : boxBlock m c (grid0.coords t) = boxes (acts m c (grid0.coords t) h3) (stacked (argW2 m c) (argW3 m c)) (argB3 m c) := dif_pos h3
  have hy0 : (y 0).val < 6144 := (y 0).isLt
  have hy1 : (y 1).val < 4 := (y 1).isLt
  show boxBlock m c (grid0.coords t) y = _
  rw [e, show y = ix2 ⟨(y 0).val, hy0⟩ ⟨(y 1).val, hy1⟩ from by funext a; fin_cases a <;> rfl]
  refine box_block (grid0.coords t) h3 (argX m c) (argW1 m c) (argB1 m c) (argW2 m c) (argW3 m c) (argB3 m c) (fun _ => zero16) _ _ _ ?_ ?_
  · rw [coord_eq t]
    blk_simp [index_eq t]
    omega
  · apply Fin.ext
    blk_simp [index_eq t]

end Cert.KernelIdeal.Hand
-- ==== Proof.Reference.lean ====
/-
What the reference computes: its nine shifted products, its two heads and its reshapes, read at an index, are the scores and the
boxes of the mathematics.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe

/-- The bordered image as the reference pads it. -/
abbrev bordered (x : Vec Ideal S1x128x128x256 .f32) : Vec Ideal S130x130x256 .f32 :=
  pad S130x130x256 ![1, 1, 0] ![1, 1, 0] ![0, 0, 0] (shapeCast _ x shapeCasts_S1x128x128x256_S128x128x256) (sitofp (F := Ideal) .f32 (constantI S_ 32 0#32))
    pads_S128x128x256_S130x130x256_110_110_000 h_S_

theorem bordered_at (x : Vec Ideal S1x128x128x256 .f32) (r w : Fin 130) (c : Fin 256) :
    (bordered x (ix3 r w c) : EReal) = Spec.pixel x r.val w.val c := by
  have zero : (FloatOps.sitofp (F := Ideal) .f32 (0#32) : EReal) = 0 := by
    show (((0#32).toInt : ℝ) : EReal) = 0
    simp
  pointwise [bordered, Spec.pixel]
  rw [zero]
  by_cases h : (1 ≤ r.val ∧ r.val ≤ 128) ∧ 1 ≤ w.val ∧ w.val ≤ 128
  · rw [dif_pos (by omega), dif_pos h]
  · rw [dif_neg (by omega), dif_neg h]

/-- One shifted product: the bordered image moved by `o`, times the weights at `o'`. -/
abbrev shifted (p : FVec Ideal S130x130x256 .f32) (w1 : FVec Ideal S3x3x256x512 .f32) (o : Fin 3 → ℕ) (o' : Fin 4 → ℕ)
    (s : S130x130x256.Slices o S128x128x256) (s' : S3x3x256x512.Slices o' S1x1x256x512) : FVec Ideal S128x128x512 .f32 :=
  Host.dotGeneral dot_S128x128x256_S256x512_S128x128x512_2_0_01_1_n_n none (extractStridedSlice S128x128x256 o p s : FVec Ideal S128x128x256 .f32)
    (shapeCast _ (extractStridedSlice S1x1x256x512 o' w1 s' : FVec Ideal S1x1x256x512 .f32) shapeCasts_S1x1x256x512_S256x512 : FVec Ideal S256x512 .f32)

theorem shifted_at (p : FVec Ideal S130x130x256 .f32) (w1 : FVec Ideal S3x3x256x512 .f32) (a b : Fin 3) (o : Fin 3 → ℕ) (o' : Fin 4 → ℕ)
    (ho : o = ![a.val, b.val, 0]) (ho' : o' = ![a.val, b.val, 0, 0]) (s : S130x130x256.Slices o S128x128x256) (s' : S3x3x256x512.Slices o' S1x1x256x512)
    (h w : Fin 128) (k : Fin 512) : (shifted p w1 o o' s s' (ix3 h w k) : EReal)
      = ∑ c : Fin 256, p (ix3 ⟨a.val + h.val, by omega⟩ ⟨b.val + w.val, by omega⟩ c) * w1 (ix4 a b c k) := by
  subst ho ho'
  pointwise [shifted]

theorem shifted_tap (x : Vec Ideal S1x128x128x256 .f32) (w1 : FVec Ideal S3x3x256x512 .f32) (a b : Fin 3) (o : Fin 3 → ℕ) (o' : Fin 4 → ℕ)
    (ho : o = ![a.val, b.val, 0]) (ho' : o' = ![a.val, b.val, 0, 0]) (s : S130x130x256.Slices o S128x128x256) (s' : S3x3x256x512.Slices o' S1x1x256x512)
    (h w : Fin 128) (k : Fin 512) : (shifted (bordered x) w1 o o' s s' (ix3 h w k) : EReal) = Spec.tap x w1 h.val w.val k a b := by
  rw [shifted_at (bordered x) w1 a b o o' ho ho' s s' h w k]
  unfold Spec.tap
  refine Finset.sum_congr rfl fun c _ => ?_
  rw [bordered_at]
  show (Spec.pixel x (a.val + h.val) (b.val + w.val) c * w1 (ix4 a b c k) : EReal) = _
  rw [Nat.add_comm a.val, Nat.add_comm b.val]

/-- Nine products and a bias added up in the reference's order. -/
abbrev added (t00 t01 t02 t10 t11 t12 t20 t21 t22 : FVec Ideal S128x128x512 .f32) (b1 : FVec Ideal S512 .f32) : FVec Ideal S128x128x512 .f32 :=
  addf (addf (addf (addf (addf (addf (addf (addf (addf (addf (broadcastInDim S128x128x512 ![] bcast_S_S128x128x512 (constant S_ .f32 0x00000000#32))
    t00) t01) t02) t10) t11) t12) t20) t21) t22)
    (broadcastInDim S128x128x512 ![0, 1, 2] bcast_S1x1x512_S128x128x512_0_1_2 (broadcastInDim S1x1x512 ![2] bcast_S512_S1x1x512_2 b1))

theorem added_at (t00 t01 t02 t10 t11 t12 t20 t21 t22 : FVec Ideal S128x128x512 .f32) (b1 : FVec Ideal S512 .f32) (h w : Fin 128) (k : Fin 512) :
    (added t00 t01 t02 t10 t11 t12 t20 t21 t22 b1 (ix3 h w k) : EReal)
      = (t00 (ix3 h w k) + t01 (ix3 h w k) + t02 (ix3 h w k) + t10 (ix3 h w k) + t11 (ix3 h w k) + t12 (ix3 h w k)
        + t20 (ix3 h w k) + t21 (ix3 h w k) + t22 (ix3 h w k) : EReal) + b1 (ix1 k) := by
  pointwise [added]

/-- The hidden activations of the reference, before the positive part. -/
abbrev activations (x : Vec Ideal S1x128x128x256 .f32) (w1 : FVec Ideal S3x3x256x512 .f32) (b1 : FVec Ideal S512 .f32) : FVec Ideal S128x128x512 .f32 :=
  added (shifted (bordered x) w1 ![0, 0, 0] ![0, 0, 0, 0] slices_S130x130x256_S128x128x256_0_0_0 slices_S3x3x256x512_S1x1x256x512_0_0_0_0)
    (shifted (bordered x) w1 ![0, 1, 0] ![0, 1, 0, 0] slices_S130x130x256_S128x128x256_0_1_0 slices_S3x3x256x512_S1x1x256x512_0_1_0_0)
    (shifted (bordered x) w1 ![0, 2, 0] ![0, 2, 0, 0] slices_S130x130x256_S128x128x256_0_2_0 slices_S3x3x256x512_S1x1x256x512_0_2_0_0)
    (shifted (bordered x) w1 ![1, 0, 0] ![1, 0, 0, 0] slices_S130x130x256_S128x128x256_1_0_0 slices_S3x3x256x512_S1x1x256x512_1_0_0_0)
    (shifted (bordered x) w1 ![1, 1, 0] ![1, 1, 0, 0] slices_S130x130x256_S128x128x256_1_1_0 slices_S3x3x256x512_S1x1x256x512_1_1_0_0)
    (shifted (bordered x) w1 ![1, 2, 0] ![1, 2, 0, 0] slices_S130x130x256_S128x128x256_1_2_0 slices_S3x3x256x512_S1x1x256x512_1_2_0_0)
    (shifted (bordered x) w1 ![2, 0, 0] ![2, 0, 0, 0] slices_S130x130x256_S128x128x256_2_0_0 slices_S3x3x256x512_S1x1x256x512_2_0_0_0)
    (shifted (bordered x) w1 ![2, 1, 0] ![2, 1, 0, 0] slices_S130x130x256_S128x128x256_2_1_0 slices_S3x3x256x512_S1x1x256x512_2_1_0_0)
    (shifted (bordered x) w1 ![2, 2, 0] ![2, 2, 0, 0] slices_S130x130x256_S128x128x256_2_2_0 slices_S3x3x256x512_S1x1x256x512_2_2_0_0) b1

theorem activations_at (x : Vec Ideal S1x128x128x256 .f32) (w1 : FVec Ideal S3x3x256x512 .f32) (b1 : FVec Ideal S512 .f32) (h w : Fin 128) (k : Fin 512) :
    (activations x w1 b1 (ix3 h w k) : EReal) = Spec.conv x w1 b1 h.val w.val k := by
  unfold Spec.conv activations
  rw [added_at, shifted_tap x w1 0 0 ![0, 0, 0] ![0, 0, 0, 0] rfl rfl, shifted_tap x w1 0 1 ![0, 1, 0] ![0, 1, 0, 0] rfl rfl, shifted_tap x w1 0 2 ![0, 2, 0] ![0, 2, 0, 0] rfl rfl,
    shifted_tap x w1 1 0 ![1, 0, 0] ![1, 0, 0, 0] rfl rfl, shifted_tap x w1 1 1 ![1, 1, 0] ![1, 1, 0, 0] rfl rfl, shifted_tap x w1 1 2 ![1, 2, 0] ![1, 2, 0, 0] rfl rfl,
    shifted_tap x w1 2 0 ![2, 0, 0] ![2, 0, 0, 0] rfl rfl, shifted_tap x w1 2 1 ![2, 1, 0] ![2, 1, 0, 0] rfl rfl, shifted_tap x w1 2 2 ![2, 2, 0] ![2, 2, 0, 0] rfl rfl]
  simp only [Fin.sum_univ_three, add_assoc]

/-- The score head over any hidden activations. -/
abbrev scoreHead (a : FVec Ideal S128x128x512 .f32) (w2 : FVec Ideal S1x1x512x6 .f32) (b2 : FVec Ideal S6 .f32) : FVec Ideal S16384x6 .f32 :=
  shapeCast _ (addf (Host.dotGeneral dot_S128x128x512_S512x6_S128x128x6_2_0_01_1_n_n none
      (maximumf a (broadcastInDim S128x128x512 ![] bcast_S_S128x128x512 (constant S_ .f32 0x00000000#32)))
      (shapeCast _ w2 shapeCasts_S1x1x512x6_S512x6 : FVec Ideal S512x6 .f32))
    (broadcastInDim S128x128x6 ![0, 1, 2] bcast_S1x1x6_S128x128x6_0_1_2 (broadcastInDim S1x1x6 ![2] bcast_S6_S1x1x6_2 b2))) shapeCasts_S128x128x6_S16384x6

theorem scoreHead_at (a : FVec Ideal S128x128x512 .f32) (w2 : FVec Ideal S1x1x512x6 .f32) (b2 : FVec Ideal S6 .f32) (p : Fin 16384) (s : Fin 6) :
    (scoreHead a w2 b2 (ix2 p s) : EReal)
      = (∑ k : Fin 512, max (a (ix3 ⟨p.val / 128, by omega⟩ ⟨p.val % 128, by omega⟩ k)) 0 * w2 (ix4 0 0 k s) : EReal) + b2 (ix1 s) := by
  pointwise [scoreHead]

/-- The box head over any hidden activations. -/
abbrev boxHead (a : FVec Ideal S128x128x512 .f32) (w3 : FVec Ideal S1x1x512x12 .f32) (b3 : FVec Ideal S12 .f32) : FVec Ideal S49152x4 .f32 :=
  shapeCast _ (addf (Host.dotGeneral dot_S128x128x512_S512x12_S128x128x12_2_0_01_1_n_n none
      (maximumf a (broadcastInDim S128x128x512 ![] bcast_S_S128x128x512 (constant S_ .f32 0x00000000#32)))
      (shapeCast _ w3 shapeCasts_S1x1x512x12_S512x12 : FVec Ideal S512x12 .f32))
    (broadcastInDim S128x128x12 ![0, 1, 2] bcast_S1x1x12_S128x128x12_0_1_2 (broadcastInDim S1x1x12 ![2] bcast_S12_S1x1x12_2 b3))) shapeCasts_S128x128x12_S49152x4

theorem boxHead_at (a : FVec Ideal S128x128x512 .f32) (w3 : FVec Ideal S1x1x512x12 .f32) (b3 : FVec Ideal S12 .f32) (r : Fin 49152) (s : Fin 4) :
    (boxHead a w3 b3 (ix2 r s) : EReal)
      = (∑ k : Fin 512, max (a (ix3 ⟨r.val / 384, by omega⟩ ⟨r.val / 3 % 128, by omega⟩ k)) 0 * w3 (ix4 0 0 k (Spec.channel r.val s)) : EReal)
        + b3 (ix1 (Spec.channel r.val s)) := by
  pointwise [boxHead, Spec.channel]

/-! ## The two results -/

theorem scores_eq (x : Vec Ideal S1x128x128x256 .f32) (w1 : FVec Ideal S3x3x256x512 .f32) (b1 : FVec Ideal S512 .f32)
    (w2 : FVec Ideal S1x1x512x6 .f32) (b2 : FVec Ideal S6 .f32) : scoreHead (activations x w1 b1) w2 b2 = Spec.scores x w1 b1 w2 b2 := by
  funext y
  obtain ⟨p, s, rfl⟩ : ∃ (p : Fin 16384) (s : Fin 6), y = ix2 p s := ⟨y 0, y 1, by funext a; fin_cases a <;> rfl⟩
  refine (scoreHead_at _ w2 b2 p s).trans (congrArg (· + (b2 (ix1 s) : EReal)) (Finset.sum_congr rfl fun k _ => ?_))
  rw [activations_at]; rfl

theorem boxes_eq (x : Vec Ideal S1x128x128x256 .f32) (w1 : FVec Ideal S3x3x256x512 .f32) (b1 : FVec Ideal S512 .f32)
    (w3 : FVec Ideal S1x1x512x12 .f32) (b3 : FVec Ideal S12 .f32) : boxHead (activations x w1 b1) w3 b3 = Spec.bboxes x w1 b1 w3 b3 := by
  funext y
  obtain ⟨r, s, rfl⟩ : ∃ (r : Fin 49152) (s : Fin 4), y = ix2 r s := ⟨y 0, y 1, by funext a; fin_cases a <;> rfl⟩
  refine (boxHead_at _ w3 b3 r s).trans (congrArg (· + (b3 (ix1 (Spec.channel r.val s)) : EReal)) (Finset.sum_congr rfl fun k _ => ?_))
  rw [activations_at]
  show (max (Spec.conv x w1 b1 (r.val / 384) (r.val / 3 % 128) k) 0 * w3 (ix4 0 0 k (Spec.channel r.val s)) : EReal)
    = max (Spec.conv x w1 b1 (r.val / 3 / 128) (r.val / 3 % 128) k) 0 * w3 (ix4 0 0 k (Spec.channel r.val s))
  rw [show r.val / 384 = r.val / 3 / 128 by omega]

variable (m : (ℓ : Loc nD τ sig) → Buf (Elt Ideal) ℓ)

theorem res_scores (c : Dev nD) : Value.res_out0 m c = Spec.scores (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_out0 Value.res_main_v62
  exact scores_eq _ _ _ _ _

theorem res_boxes (c : Dev nD) : Value.res_out1 m c = Spec.bboxes (m ((c.tc : Thread nD τ).loc main_arg0)) (m ((c.tc : Thread nD τ).loc main_arg1))
    (m ((c.tc : Thread nD τ).loc main_arg2)) (m ((c.tc : Thread nD τ).loc main_arg5)) (m ((c.tc : Thread nD τ).loc main_arg6)) := by
  unfold Value.res_out1 Value.res_main_v63
  exact boxes_eq _ _ _ _ _

end Cert.ReferenceIdeal.Hand
-- ==== Proof.lean ====
/-
The five claims. The two kernel programs have one text, so one run (Proof/Run.lean), stated for any float values, gives both
frames. Over the reals that run leaves the scores and the boxes in the two result arrays (Proof/Arrays.lean), and the
reference's term is the same two functions of the arguments (Proof/Reference.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Arrays
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! ## The kernel's arguments keep their contents -/

section Kernel

open Cert.KernelIdeal Cert.KernelIdeal.Gen Cert.KernelIdeal.Hand

variable {F : FTy → Type} [FloatOps F] {m : (ℓ : Loc nD τ sig) → Buf (Elt F) ℓ} {r : PUnit × MemSt nD τ sig (Elt F)}

/-- After the run every argument array is as launched. -/
theorem args_kept (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have kept (w : Fin cfg0.W) (hw : (cfg0.win w).isOut = false) := ((h c).1 w).trans ((dats m 0 c).arrAt_in w hw _)
  ⟨kept 0 rfl, kept 1 rfl, kept 4 rfl, kept 2 rfl, kept 5 rfl, kept 3 rfl, kept 6 rfl⟩

end Kernel

/-! ## The claims -/

/-- The two kernel programs' bodies are one text. -/
theorem body_same : @Cert.Kernel.cc0__fused_rpn_body Bits _ Cert.Kernel.Gen.facts = @Cert.KernelIdeal.cc0__fused_rpn_body Bits _ Cert.KernelIdeal.Gen.facts := rfl

/-- So their body tables agree, at the one label there is. -/
theorem defs₀_same : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext label args
  match label, args with
  | 0, (t, s) =>
    show Cert.Kernel.cc0__fused_rpn_body _ _ _ _ _ _ _ _ _ _ _ _ _ _ _ _ _ _ _ _ _ _ _ _ _ = _
    rw [body_same]; rfl
  | ⟨_ + 1, h⟩, _ => exact absurd h (Nat.not_lt.2 (Nat.le_add_left _ _))

theorem defs_same : @Cert.Kernel.defs Bits _ Cert.Kernel.Gen.facts = @Cert.KernelIdeal.defs Bits _ Cert.KernelIdeal.Gen.facts :=
  congrArg (Pipeline.defs Cert.KernelIdeal.pcfgs) defs₀_same

theorem frame_kernel : Cert.quiescent_Kernel := fun m ρ _ => by
  rw [defs_same]
  exact (θ_run Cert.KernelIdeal.defs _ _).mono (fun _ h => ⟨args_kept h.1, h.2⟩) (Cert.KernelIdeal.Hand.run_main (F := Bits) m ρ)

theorem frame_kernelIdeal : Cert.quiescent_KernelIdeal := fun m ρ _ =>
  (θ_run Cert.KernelIdeal.defs _ _).mono (fun _ h => ⟨args_kept h.1, h.2⟩) (Cert.KernelIdeal.Hand.run_main (F := Ideal) m ρ)

theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩) (Cert.ReferenceIdeal.Value.run (F := Ideal) m ρ)

/-- Over the reals the kernel and the reference leave the same scores and the same boxes. -/
theorem algebraic : Cert.algebraic_KernelIdeal_ReferenceIdeal := fun m ρ m' ρ' _ hm => by
  refine ⟨fun c => Spec.scores (Cert.KernelIdeal.Hand.argX m c) (Cert.KernelIdeal.Hand.argW1 m c) (Cert.KernelIdeal.Hand.argB1 m c)
      (Cert.KernelIdeal.Hand.argW2 m c) (Cert.KernelIdeal.Hand.argB2 m c),
    fun c => Spec.bboxes (Cert.KernelIdeal.Hand.argX m c) (Cert.KernelIdeal.Hand.argW1 m c) (Cert.KernelIdeal.Hand.argB1 m c)
      (Cert.KernelIdeal.Hand.argW3 m c) (Cert.KernelIdeal.Hand.argB3 m c), ?_, ?_⟩
  · exact (θ_run Cert.KernelIdeal.defs _ _).mono (fun _ h c =>
      ⟨((h.1 c).1 7).trans (Cert.KernelIdeal.Hand.final_scores m c), ((h.1 c).1 8).trans (Cert.KernelIdeal.Hand.final_boxes m c), args_kept h.1 c⟩)
      (Cert.KernelIdeal.Hand.run_main (F := Ideal) m ρ)
  · refine (θ_run Cert.ReferenceIdeal.defs _ _).mono (fun _ h c => ?_) (Cert.ReferenceIdeal.Value.run (F := Ideal) m' ρ')
    obtain ⟨e0, e1, e2, e3, e4, e5, e6⟩ := hm c
    have hs := Cert.ReferenceIdeal.Hand.res_scores m' c
    have hb := Cert.ReferenceIdeal.Hand.res_boxes m' c
    rw [e0, e1, e2, e3, e4] at hs
    rw [e0, e1, e2, e5, e6] at hb
    exact ⟨(h c).1.trans hs, (h c).2.1.trans hb, (h c).2.2⟩

theorem claim : Cert.Claim := ⟨Cert.Kernel.Gen.facts, Cert.KernelIdeal.Gen.facts, Cert.ReferenceIdeal.Gen.facts,
  frame_kernel, frame_kernelIdeal, frame_reference, by trivial, algebraic⟩

end Cert.Proof

end
